-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInRefIdeal (m : (ℓ : Loc Cert.HyenaInRefIdeal.nD Cert.HyenaInRefIdeal.τ Cert.HyenaInRefIdeal.sig) → Buf (Elt Ideal) ℓ) : Prop :=
  True

def Pre_HyenaOut (m : (ℓ : Loc Cert.HyenaOut.nD Cert.HyenaOut.τ Cert.HyenaOut.sig) → Buf (Elt Bits) ℓ) : Prop :=
  True

def Pre_HyenaOutIdeal (m : (ℓ : Loc Cert.HyenaOutIdeal.nD Cert.HyenaOutIdeal.τ Cert.HyenaOutIdeal.sig) → Buf (Elt Ideal) ℓ) : Prop :=
  True

def Pre_HyenaOutRefIdeal (m : (ℓ : Loc Cert.HyenaOutRefIdeal.nD Cert.HyenaOutRefIdeal.τ Cert.HyenaOutRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_HyenaConv (m : (ℓ : Loc Cert.HyenaConv.nD Cert.HyenaConv.τ Cert.HyenaConv.sig) → Buf (Elt Bits) ℓ) : Prop :=
  True

def Pre_HyenaConvIdeal (m : (ℓ : Loc Cert.HyenaConvIdeal.nD Cert.HyenaConvIdeal.τ Cert.HyenaConvIdeal.sig) → Buf (Elt Ideal) ℓ) : Prop :=
  True

def Pre_HyenaConvRefIdeal (m : (ℓ : Loc Cert.HyenaConvRefIdeal.nD Cert.HyenaConvRefIdeal.τ Cert.HyenaConvRefIdeal.sig) → Buf (Elt Ideal) ℓ) : Prop :=
  True

def Pre_CombineSample (m : (ℓ : Loc Cert.CombineSample.nD Cert.CombineSample.τ Cert.CombineSample.sig) → Buf (Elt Bits) ℓ) : Prop :=
  True

def Pre_CombineSampleIdeal (m : (ℓ : Loc Cert.CombineSampleIdeal.nD Cert.CombineSampleIdeal.τ Cert.CombineSampleIdeal.sig) → Buf (Elt Ideal) ℓ) : Prop :=
  True

def Pre_CombineSampleRefIdeal (m : (ℓ : Loc Cert.CombineSampleRefIdeal.nD Cert.CombineSampleRefIdeal.τ Cert.CombineSampleRefIdeal.sig) → Buf (Elt Ideal) ℓ) : Prop :=
  True

def Pre_CombineFirst (m : (ℓ : Loc Cert.CombineFirst.nD Cert.CombineFirst.τ Cert.CombineFirst.sig) → Buf (Elt Bits) ℓ) : Prop :=
  True

def Pre_CombineFirstIdeal (m : (ℓ : Loc Cert.CombineFirstIdeal.nD Cert.CombineFirstIdeal.τ Cert.CombineFirstIdeal.sig) → Buf (Elt Ideal) ℓ) : Prop :=
  True

def Pre_CombineFirstRefIdeal (m : (ℓ : Loc Cert.CombineFirstRefIdeal.nD Cert.CombineFirstRefIdeal.τ Cert.CombineFirstRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1)
      ∧ r.2.mem ((c.tc : Thread Cert.HyenaIn.nD Cert.HyenaIn.τ).loc Cert.HyenaIn.main_arg2) = m ((c.tc : Thread Cert.HyenaIn.nD Cert.HyenaIn.τ).loc Cert.HyenaIn.main_arg2))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
      ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2))
      ∧ r.2.sem = fun _ => 0)

def quiescent_HyenaInRefIdeal [hHyenaInRefIdeal : Cert.HyenaInRefIdeal.Facts] : Prop :=
  ∀ (m : (ℓ : Loc Cert.HyenaInRefIdeal.nD Cert.HyenaInRefIdeal.τ Cert.HyenaInRefIdeal.sig) → Buf (Elt Ideal) ℓ) (g : Dev Cert.HyenaInRefIdeal.nD → PrngReg), Pre_HyenaInRefIdeal m →
    θ_run (Cert.HyenaInRefIdeal.defs (F := Ideal)) (onTc (τ := Cert.HyenaInRefIdeal.τ) (Cert.HyenaInRefIdeal.main (F := Ideal))) ⟨m, fun _ => 0, g⟩ (fun r => (∀ c : Dev Cert.HyenaInRefIdeal.nD,
      r.2.mem ((c.tc : Thread Cert.HyenaInRefIdeal.nD Cert.HyenaInRefIdeal.τ).loc Cert.HyenaInRefIdeal.main_arg0) = m ((c.tc : Thread Cert.HyenaInRefIdeal.nD Cert.HyenaInRefIdeal.τ).loc Cert.HyenaInRefIdeal.main_arg0)
      ∧ r.2.mem ((c.tc : Thread Cert.HyenaInRefIdeal.nD Cert.HyenaInRefIdeal.τ).loc Cert.HyenaInRefIdeal.main_arg1) = m ((c.tc : Thread Cert.HyenaInRefIdeal.nD Cert.HyenaInRefIdeal.τ).loc Cert.HyenaInRefIdeal.main_arg1)
      ∧ r.2.mem ((c.tc : Thread Cert.HyenaInRefIdeal.nD Cert.HyenaInRefIdeal.τ).loc Cert.HyenaInRefIdeal.main_arg2) = m ((c.tc : Thread Cert.HyenaInRefIdeal.nD Cert.HyenaInRefIdeal.τ).loc Cert.HyenaInRefIdeal.main_arg2))
      ∧ r.2.sem = fun _ => 0)

def quiescent_HyenaOut [hHyenaOut : Cert.HyenaOut.Facts] : Prop :=
  ∀ (m : (ℓ : Loc Cert.HyenaOut.nD Cert.HyenaOut.τ Cert.HyenaOut.sig) → Buf (Elt Bits) ℓ) (g : Dev Cert.HyenaOut.nD → PrngReg), Pre_HyenaOut m →
    θ_run (Cert.HyenaOut.defs (F := Bits)) (onTc (τ := Cert.HyenaOut.τ) (Cert.HyenaOut.main (F := Bits))) ⟨m, fun _ => 0, g⟩ (fun r => (∀ c : Dev Cert.HyenaOut.nD,
      r.2.mem ((c.tc : Thread Cert.HyenaOut.nD Cert.HyenaOut.τ).loc Cert.HyenaOut.main_arg0) = m ((c.tc : Thread Cert.HyenaOut.nD Cert.HyenaOut.τ).loc Cert.HyenaOut.main_arg0)
      ∧ r.2.mem ((c.tc : Thread Cert.HyenaOut.nD Cert.HyenaOut.τ).loc Cert.HyenaOut.main_arg1) = m ((c.tc : Thread Cert.HyenaOut.nD Cert.HyenaOut.τ).loc Cert.HyenaOut.main_arg1)
      ∧ r.2.mem ((c.tc : Thread Cert.HyenaOut.nD Cert.HyenaOut.τ).loc Cert.HyenaOut.main_arg2) = m ((c.tc : Thread Cert.HyenaOut.nD Cert.HyenaOut.τ).loc Cert.HyenaOut.main_arg2))
      ∧ r.2.sem = fun _ => 0)

def quiescent_HyenaOutIdeal [hHyenaOutIdeal : Cert.HyenaOutIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg), Pre_HyenaOutIdeal m →
    θ_run (Cert.HyenaOutIdeal.defs (F := Ideal)) (onTc (τ := Cert.HyenaOutIdeal.τ) (Cert.HyenaOutIdeal.main (F := Ideal))) ⟨m, fun _ => 0, g⟩ (fun r => (∀ c : Dev Cert.HyenaOutIdeal.nD,
      r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
      ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
      ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2))
      ∧ r.2.sem = fun _ => 0)

def quiescent_HyenaOutRefIdeal [hHyenaOutRefIdeal : Cert.HyenaOutRefIdeal.Facts] : Prop :=
  ∀ (m : (ℓ : Loc Cert.HyenaOutRefIdeal.nD Cert.HyenaOutRefIdeal.τ Cert.HyenaOutRefIdeal.sig) → Buf (Elt Ideal) ℓ) (g : Dev Cert.HyenaOutRefIdeal.nD → PrngReg), Pre_HyenaOutRefIdeal m →
    θ_run (Cert.HyenaOutRefIdeal.defs (F := Ideal)) (onTc (τ := Cert.HyenaOutRefIdeal.τ) (Cert.HyenaOutRefIdeal.main (F := Ideal))) ⟨m, fun _ => 0, g⟩ (fun r => (∀ c : Dev Cert.HyenaOutRefIdeal.nD,
      r.2.mem ((c.tc : Thread Cert.HyenaOutRefIdeal.nD Cert.HyenaOutRefIdeal.τ).loc Cert.HyenaOutRefIdeal.main_arg0) = m ((c.tc : Thread Cert.HyenaOutRefIdeal.nD Cert.HyenaOutRefIdeal.τ).loc Cert.HyenaOutRefIdeal.main_arg0)
      ∧ r.2.mem ((c.tc : Thread Cert.HyenaOutRefIdeal.nD Cert.HyenaOutRefIdeal.τ).loc Cert.HyenaOutRefIdeal.main_arg1) = m ((c.tc : Thread Cert.HyenaOutRefIdeal.nD Cert.HyenaOutRefIdeal.τ).loc Cert.HyenaOutRefIdeal.main_arg1)
      ∧ r.2.mem ((c.tc : Thread Cert.HyenaOutRefIdeal.nD Cert.HyenaOutRefIdeal.τ).loc Cert.HyenaOutRefIdeal.main_arg2) = m ((c.tc : Thread Cert.HyenaOutRefIdeal.nD Cert.HyenaOutRefIdeal.τ).loc Cert.HyenaOutRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_HyenaConv [hHyenaConv : Cert.HyenaConv.Facts] : Prop :=
  ∀ (m : (ℓ : Loc Cert.HyenaConv.nD Cert.HyenaConv.τ Cert.HyenaConv.sig) → Buf (Elt Bits) ℓ) (g : Dev Cert.HyenaConv.nD → PrngReg), Pre_HyenaConv m →
    θ_run (Cert.HyenaConv.defs (F := Bits)) (onTc (τ := Cert.HyenaConv.τ) (Cert.HyenaConv.main (F := Bits))) ⟨m, fun _ => 0, g⟩ (fun r => (∀ c : Dev Cert.HyenaConv.nD,
      r.2.mem ((c.tc : Thread Cert.HyenaConv.nD Cert.HyenaConv.τ).loc Cert.HyenaConv.main_arg0) = m ((c.tc : Thread Cert.HyenaConv.nD Cert.HyenaConv.τ).loc Cert.HyenaConv.main_arg0)
      ∧ r.2.mem ((c.tc : Thread Cert.HyenaConv.nD Cert.HyenaConv.τ).loc Cert.HyenaConv.main_arg1) = m ((c.tc : Thread Cert.HyenaConv.nD Cert.HyenaConv.τ).loc Cert.HyenaConv.main_arg1)
      ∧ r.2.mem ((c.tc : Thread Cert.HyenaConv.nD Cert.HyenaConv.τ).loc Cert.HyenaConv.main_arg2) = m ((c.tc : Thread Cert.HyenaConv.nD Cert.HyenaConv.τ).loc Cert.HyenaConv.main_arg2))
      ∧ r.2.sem = fun _ => 0)

def quiescent_HyenaConvIdeal [hHyenaConvIdeal : Cert.HyenaConvIdeal.Facts] : Prop :=
  ∀ (m : (ℓ : Loc Cert.HyenaConvIdeal.nD Cert.HyenaConvIdeal.τ Cert.HyenaConvIdeal.sig) → Buf (Elt Ideal) ℓ) (g : Dev Cert.HyenaConvIdeal.nD → PrngReg), Pre_HyenaConvIdeal m →
    θ_run (Cert.HyenaConvIdeal.defs (F := Ideal)) (onTc (τ := Cert.HyenaConvIdeal.τ) (Cert.HyenaConvIdeal.main (F := Ideal))) ⟨m, fun _ => 0, g⟩ (fun r => (∀ c : Dev Cert.HyenaConvIdeal.nD,
      r.2.mem ((c.tc : Thread Cert.HyenaConvIdeal.nD Cert.HyenaConvIdeal.τ).loc Cert.HyenaConvIdeal.main_arg0) = m ((c.tc : Thread Cert.HyenaConvIdeal.nD Cert.HyenaConvIdeal.τ).loc Cert.HyenaConvIdeal.main_arg0)
      ∧ r.2.mem ((c.tc : Thread Cert.HyenaConvIdeal.nD Cert.HyenaConvIdeal.τ).loc Cert.HyenaConvIdeal.main_arg1) = m ((c.tc : Thread Cert.HyenaConvIdeal.nD Cert.HyenaConvIdeal.τ).loc Cert.HyenaConvIdeal.main_arg1)
      ∧ r.2.mem ((c.tc : Thread Cert.HyenaConvIdeal.nD Cert.HyenaConvIdeal.τ).loc Cert.HyenaConvIdeal.main_arg2) = m ((c.tc : Thread Cert.HyenaConvIdeal.nD Cert.HyenaConvIdeal.τ).loc Cert.HyenaConvIdeal.main_arg2))
      ∧ r.2.sem = fun _ => 0)

def quiescent_HyenaConvRefIdeal [hHyenaConvRefIdeal : Cert.HyenaConvRefIdeal.Facts] : Prop :=
  ∀ (m : (ℓ : Loc Cert.HyenaConvRefIdeal.nD Cert.HyenaConvRefIdeal.τ Cert.HyenaConvRefIdeal.sig) → Buf (Elt Ideal) ℓ) (g : Dev Cert.HyenaConvRefIdeal.nD → PrngReg), Pre_HyenaConvRefIdeal m →
    θ_run (Cert.HyenaConvRefIdeal.defs (F := Ideal)) (onTc (τ := Cert.HyenaConvRefIdeal.τ) (Cert.HyenaConvRefIdeal.main (F := Ideal))) ⟨m, fun _ => 0, g⟩ (fun r => (∀ c : Dev Cert.HyenaConvRefIdeal.nD,
      r.2.mem ((c.tc : Thread Cert.HyenaConvRefIdeal.nD Cert.HyenaConvRefIdeal.τ).loc Cert.HyenaConvRefIdeal.main_arg0) = m ((c.tc : Thread Cert.HyenaConvRefIdeal.nD Cert.HyenaConvRefIdeal.τ).loc Cert.HyenaConvRefIdeal.main_arg0)
      ∧ r.2.mem ((c.tc : Thread Cert.HyenaConvRefIdeal.nD Cert.HyenaConvRefIdeal.τ).loc Cert.HyenaConvRefIdeal.main_arg1) = m ((c.tc : Thread Cert.HyenaConvRefIdeal.nD Cert.HyenaConvRefIdeal.τ).loc Cert.HyenaConvRefIdeal.main_arg1)
      ∧ r.2.mem ((c.tc : Thread Cert.HyenaConvRefIdeal.nD Cert.HyenaConvRefIdeal.τ).loc Cert.HyenaConvRefIdeal.main_arg2) = m ((c.tc : Thread Cert.HyenaConvRefIdeal.nD Cert.HyenaConvRefIdeal.τ).loc Cert.HyenaConvRefIdeal.main_arg2))
      ∧ r.2.sem = fun _ => 0)

def quiescent_CombineSample [hCombineSample : Cert.CombineSample.Facts] : Prop :=
  ∀ (m : (ℓ : Loc Cert.CombineSample.nD Cert.CombineSample.τ Cert.CombineSample.sig) → Buf (Elt Bits) ℓ) (g : Dev Cert.CombineSample.nD → PrngReg), Pre_CombineSample m →
    θ_run (Cert.CombineSample.defs (F := Bits)) (onTc (τ := Cert.CombineSample.τ) (Cert.CombineSample.main (F := Bits))) ⟨m, fun _ => 0, g⟩ (fun r => (∀ c : Dev Cert.CombineSample.nD,
      r.2.mem ((c.tc : Thread Cert.CombineSample.nD Cert.CombineSample.τ).loc Cert.CombineSample.main_arg0) = m ((c.tc : Thread Cert.CombineSample.nD Cert.CombineSample.τ).loc Cert.CombineSample.main_arg0)
      ∧ r.2.mem ((c.tc : Thread Cert.CombineSample.nD Cert.CombineSample.τ).loc Cert.CombineSample.main_arg1) = m ((c.tc : Thread Cert.CombineSample.nD Cert.CombineSample.τ).loc Cert.CombineSample.main_arg1)
      ∧ r.2.mem ((c.tc : Thread Cert.CombineSample.nD Cert.CombineSample.τ).loc Cert.CombineSample.main_arg2) = m ((c.tc : Thread Cert.CombineSample.nD Cert.CombineSample.τ).loc Cert.CombineSample.main_arg2))
      ∧ r.2.sem = fun _ => 0)

def quiescent_CombineSampleIdeal [hCombineSampleIdeal : Cert.CombineSampleIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg), Pre_CombineSampleIdeal m →
    θ_run (Cert.CombineSampleIdeal.defs (F := Ideal)) (onTc (τ := Cert.CombineSampleIdeal.τ) (Cert.CombineSampleIdeal.main (F := Ideal))) ⟨m, fun _ => 0, g⟩ (fun r => (∀ c : Dev Cert.CombineSampleIdeal.nD,
      r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
      ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
      ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2))
      ∧ r.2.sem = fun _ => 0)

def quiescent_CombineSampleRefIdeal [hCombineSampleRefIdeal : Cert.CombineSampleRefIdeal.Facts] : Prop :=
  ∀ (m : (ℓ : Loc Cert.CombineSampleRefIdeal.nD Cert.CombineSampleRefIdeal.τ Cert.CombineSampleRefIdeal.sig) → Buf (Elt Ideal) ℓ) (g : Dev Cert.CombineSampleRefIdeal.nD → PrngReg), Pre_CombineSampleRefIdeal m →
    θ_run (Cert.CombineSampleRefIdeal.defs (F := Ideal)) (onTc (τ := Cert.CombineSampleRefIdeal.τ) (Cert.CombineSampleRefIdeal.main (F := Ideal))) ⟨m, fun _ => 0, g⟩ (fun r => (∀ c : Dev Cert.CombineSampleRefIdeal.nD,
      r.2.mem ((c.tc : Thread Cert.CombineSampleRefIdeal.nD Cert.CombineSampleRefIdeal.τ).loc Cert.CombineSampleRefIdeal.main_arg0) = m ((c.tc : Thread Cert.CombineSampleRefIdeal.nD Cert.CombineSampleRefIdeal.τ).loc Cert.CombineSampleRefIdeal.main_arg0)
      ∧ r.2.mem ((c.tc : Thread Cert.CombineSampleRefIdeal.nD Cert.CombineSampleRefIdeal.τ).loc Cert.CombineSampleRefIdeal.main_arg1) = m ((c.tc : Thread Cert.CombineSampleRefIdeal.nD Cert.CombineSampleRefIdeal.τ).loc Cert.CombineSampleRefIdeal.main_arg1)
      ∧ r.2.mem ((c.tc : Thread Cert.CombineSampleRefIdeal.nD Cert.CombineSampleRefIdeal.τ).loc Cert.CombineSampleRefIdeal.main_arg2) = m ((c.tc : Thread Cert.CombineSampleRefIdeal.nD Cert.CombineSampleRefIdeal.τ).loc Cert.CombineSampleRefIdeal.main_arg2))
      ∧ r.2.sem = fun _ => 0)

def quiescent_CombineFirst [hCombineFirst : Cert.CombineFirst.Facts] : Prop :=
  ∀ (m : (ℓ : Loc Cert.CombineFirst.nD Cert.CombineFirst.τ Cert.CombineFirst.sig) → Buf (Elt Bits) ℓ) (g : Dev Cert.CombineFirst.nD → PrngReg), Pre_CombineFirst m →
    θ_run (Cert.CombineFirst.defs (F := Bits)) (onTc (τ := Cert.CombineFirst.τ) (Cert.CombineFirst.main (F := Bits))) ⟨m, fun _ => 0, g⟩ (fun r => (∀ c : Dev Cert.CombineFirst.nD,
      r.2.mem ((c.tc : Thread Cert.CombineFirst.nD Cert.CombineFirst.τ).loc Cert.CombineFirst.main_arg0) = m ((c.tc : Thread Cert.CombineFirst.nD Cert.CombineFirst.τ).loc Cert.CombineFirst.main_arg0)
      ∧ r.2.mem ((c.tc : Thread Cert.CombineFirst.nD Cert.CombineFirst.τ).loc Cert.CombineFirst.main_arg1) = m ((c.tc : Thread Cert.CombineFirst.nD Cert.CombineFirst.τ).loc Cert.CombineFirst.main_arg1))
      ∧ r.2.sem = fun _ => 0)

def quiescent_CombineFirstIdeal [hCombineFirstIdeal : Cert.CombineFirstIdeal.Facts] : Prop :=
  ∀ (m : (ℓ : Loc Cert.CombineFirstIdeal.nD Cert.CombineFirstIdeal.τ Cert.CombineFirstIdeal.sig) → Buf (Elt Ideal) ℓ) (g : Dev Cert.CombineFirstIdeal.nD → PrngReg), Pre_CombineFirstIdeal m →
    θ_run (Cert.CombineFirstIdeal.defs (F := Ideal)) (onTc (τ := Cert.CombineFirstIdeal.τ) (Cert.CombineFirstIdeal.main (F := Ideal))) ⟨m, fun _ => 0, g⟩ (fun r => (∀ c : Dev Cert.CombineFirstIdeal.nD,
      r.2.mem ((c.tc : Thread Cert.CombineFirstIdeal.nD Cert.CombineFirstIdeal.τ).loc Cert.CombineFirstIdeal.main_arg0) = m ((c.tc : Thread Cert.CombineFirstIdeal.nD Cert.CombineFirstIdeal.τ).loc Cert.CombineFirstIdeal.main_arg0)
      ∧ r.2.mem ((c.tc : Thread Cert.CombineFirstIdeal.nD Cert.CombineFirstIdeal.τ).loc Cert.CombineFirstIdeal.main_arg1) = m ((c.tc : Thread Cert.CombineFirstIdeal.nD Cert.CombineFirstIdeal.τ).loc Cert.CombineFirstIdeal.main_arg1))
      ∧ r.2.sem = fun _ => 0)

def quiescent_CombineFirstRefIdeal [hCombineFirstRefIdeal : Cert.CombineFirstRefIdeal.Facts] : Prop :=
  ∀ (m : (ℓ : Loc Cert.CombineFirstRefIdeal.nD Cert.CombineFirstRefIdeal.τ Cert.CombineFirstRefIdeal.sig) → Buf (Elt Ideal) ℓ) (g : Dev Cert.CombineFirstRefIdeal.nD → PrngReg), Pre_CombineFirstRefIdeal m →
    θ_run (Cert.CombineFirstRefIdeal.defs (F := Ideal)) (onTc (τ := Cert.CombineFirstRefIdeal.τ) (Cert.CombineFirstRefIdeal.main (F := Ideal))) ⟨m, fun _ => 0, g⟩ (fun r => (∀ c : Dev Cert.CombineFirstRefIdeal.nD,
      r.2.mem ((c.tc : Thread Cert.CombineFirstRefIdeal.nD Cert.CombineFirstRefIdeal.τ).loc Cert.CombineFirstRefIdeal.main_arg0) = m ((c.tc : Thread Cert.CombineFirstRefIdeal.nD Cert.CombineFirstRefIdeal.τ).loc Cert.CombineFirstRefIdeal.main_arg0)
      ∧ r.2.mem ((c.tc : Thread Cert.CombineFirstRefIdeal.nD Cert.CombineFirstRefIdeal.τ).loc Cert.CombineFirstRefIdeal.main_arg1) = m ((c.tc : Thread Cert.CombineFirstRefIdeal.nD Cert.CombineFirstRefIdeal.τ).loc Cert.CombineFirstRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_HyenaIn_HyenaInIdeal : Prop :=
  True

def algebraic_HyenaInIdeal_HyenaInRefIdeal [hHyenaInIdeal : Cert.HyenaInIdeal.Facts] [hHyenaInRefIdeal : Cert.HyenaInRefIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInRefIdeal.nD Cert.HyenaInRefIdeal.τ Cert.HyenaInRefIdeal.sig) → Buf (Elt Ideal) ℓ) (g' : Dev Cert.HyenaInRefIdeal.nD → PrngReg), Pre_HyenaInIdeal m →
    (∀ c : Dev Cert.HyenaInIdeal.nD,
      m' ((c.tc : Thread Cert.HyenaInRefIdeal.nD Cert.HyenaInRefIdeal.τ).loc Cert.HyenaInRefIdeal.main_arg0) = m ((c.tc : Thread Cert.HyenaInIdeal.nD Cert.HyenaInIdeal.τ).loc Cert.HyenaInIdeal.main_arg0)
      ∧ m' ((c.tc : Thread Cert.HyenaInRefIdeal.nD Cert.HyenaInRefIdeal.τ).loc Cert.HyenaInRefIdeal.main_arg1) = m ((c.tc : Thread Cert.HyenaInIdeal.nD Cert.HyenaInIdeal.τ).loc Cert.HyenaInIdeal.main_arg1)
      ∧ m' ((c.tc : Thread Cert.HyenaInRefIdeal.nD Cert.HyenaInRefIdeal.τ).loc Cert.HyenaInRefIdeal.main_arg2) = m ((c.tc : Thread Cert.HyenaInIdeal.nD Cert.HyenaInIdeal.τ).loc Cert.HyenaInIdeal.main_arg2)) →
    ∃ (v0 : (c : Dev Cert.HyenaInIdeal.nD) → Buf (Elt Ideal) ((c.tc : Thread Cert.HyenaInIdeal.nD Cert.HyenaInIdeal.τ).loc Cert.HyenaInIdeal.main_v3)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v3) = v0 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
          ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2))
      ∧ θ_run (Cert.HyenaInRefIdeal.defs (F := Ideal)) (onTc (τ := Cert.HyenaInRefIdeal.τ) (Cert.HyenaInRefIdeal.main (F := Ideal))) ⟨m', fun _ => 0, g'⟩ (fun r => ∀ c : Dev Cert.HyenaInRefIdeal.nD,
          r.2.mem ((c.tc : Thread Cert.HyenaInRefIdeal.nD Cert.HyenaInRefIdeal.τ).loc Cert.HyenaInRefIdeal.main_v15) = v0 c
          ∧ r.2.mem ((c.tc : Thread Cert.HyenaInRefIdeal.nD Cert.HyenaInRefIdeal.τ).loc Cert.HyenaInRefIdeal.main_arg0) = m' ((c.tc : Thread Cert.HyenaInRefIdeal.nD Cert.HyenaInRefIdeal.τ).loc Cert.HyenaInRefIdeal.main_arg0)
          ∧ r.2.mem ((c.tc : Thread Cert.HyenaInRefIdeal.nD Cert.HyenaInRefIdeal.τ).loc Cert.HyenaInRefIdeal.main_arg1) = m' ((c.tc : Thread Cert.HyenaInRefIdeal.nD Cert.HyenaInRefIdeal.τ).loc Cert.HyenaInRefIdeal.main_arg1)
          ∧ r.2.mem ((c.tc : Thread Cert.HyenaInRefIdeal.nD Cert.HyenaInRefIdeal.τ).loc Cert.HyenaInRefIdeal.main_arg2) = m' ((c.tc : Thread Cert.HyenaInRefIdeal.nD Cert.HyenaInRefIdeal.τ).loc Cert.HyenaInRefIdeal.main_arg2))

def preserves_HyenaOut_HyenaOutIdeal : Prop :=
  True

def algebraic_HyenaOutIdeal_HyenaOutRefIdeal [hHyenaOutIdeal : Cert.HyenaOutIdeal.Facts] [hHyenaOutRefIdeal : Cert.HyenaOutRefIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg)
    (m' : (ℓ : Loc Cert.HyenaOutRefIdeal.nD Cert.HyenaOutRefIdeal.τ Cert.HyenaOutRefIdeal.sig) → Buf (Elt Ideal) ℓ) (g' : Dev Cert.HyenaOutRefIdeal.nD → PrngReg), Pre_HyenaOutIdeal m →
    (∀ c : Dev Cert.HyenaOutIdeal.nD,
      m' ((c.tc : Thread Cert.HyenaOutRefIdeal.nD Cert.HyenaOutRefIdeal.τ).loc Cert.HyenaOutRefIdeal.main_arg0) = m ((c.tc : Thread Cert.HyenaOutIdeal.nD Cert.HyenaOutIdeal.τ).loc Cert.HyenaOutIdeal.main_arg0)
      ∧ m' ((c.tc : Thread Cert.HyenaOutRefIdeal.nD Cert.HyenaOutRefIdeal.τ).loc Cert.HyenaOutRefIdeal.main_arg1) = m ((c.tc : Thread Cert.HyenaOutIdeal.nD Cert.HyenaOutIdeal.τ).loc Cert.HyenaOutIdeal.main_arg1)
      ∧ m' ((c.tc : Thread Cert.HyenaOutRefIdeal.nD Cert.HyenaOutRefIdeal.τ).loc Cert.HyenaOutRefIdeal.main_arg2) = m ((c.tc : Thread Cert.HyenaOutIdeal.nD Cert.HyenaOutIdeal.τ).loc Cert.HyenaOutIdeal.main_arg2)) →
    ∃ (v0 : (c : Dev Cert.HyenaOutIdeal.nD) → Buf (Elt Ideal) ((c.tc : Thread Cert.HyenaOutIdeal.nD Cert.HyenaOutIdeal.τ).loc Cert.HyenaOutIdeal.main_v3)),
      θ_run (Cert.HyenaOutIdeal.defs (F := Ideal)) (onTc (τ := Cert.HyenaOutIdeal.τ) (Cert.HyenaOutIdeal.main (F := Ideal))) ⟨m, fun _ => 0, g⟩ (fun r => ∀ c : Dev Cert.HyenaOutIdeal.nD,
          r.2.mem ((c.tc : Thread Cert.HyenaOutIdeal.nD Cert.HyenaOutIdeal.τ).loc Cert.HyenaOutIdeal.main_v3) = v0 c
          ∧ r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
          ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
          ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2))
      ∧ θ_run (Cert.HyenaOutRefIdeal.defs (F := Ideal)) (onTc (τ := Cert.HyenaOutRefIdeal.τ) (Cert.HyenaOutRefIdeal.main (F := Ideal))) ⟨m', fun _ => 0, g'⟩ (fun r => ∀ c : Dev Cert.HyenaOutRefIdeal.nD,
          r.2.mem ((c.tc : Thread Cert.HyenaOutRefIdeal.nD Cert.HyenaOutRefIdeal.τ).loc Cert.HyenaOutRefIdeal.main_v3) = v0 c
          ∧ r.2.mem ((c.tc : Thread Cert.HyenaOutRefIdeal.nD Cert.HyenaOutRefIdeal.τ).loc Cert.HyenaOutRefIdeal.main_arg0) = m' ((c.tc : Thread Cert.HyenaOutRefIdeal.nD Cert.HyenaOutRefIdeal.τ).loc Cert.HyenaOutRefIdeal.main_arg0)
          ∧ r.2.mem ((c.tc : Thread Cert.HyenaOutRefIdeal.nD Cert.HyenaOutRefIdeal.τ).loc Cert.HyenaOutRefIdeal.main_arg1) = m' ((c.tc : Thread Cert.HyenaOutRefIdeal.nD Cert.HyenaOutRefIdeal.τ).loc Cert.HyenaOutRefIdeal.main_arg1)
          ∧ r.2.mem ((c.tc : Thread Cert.HyenaOutRefIdeal.nD Cert.HyenaOutRefIdeal.τ).loc Cert.HyenaOutRefIdeal.main_arg2) = m' ((c.tc : Thread Cert.HyenaOutRefIdeal.nD Cert.HyenaOutRefIdeal.τ).loc Cert.HyenaOutRefIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v17) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_HyenaConv_HyenaConvIdeal : Prop :=
  True

def algebraic_HyenaConvIdeal_HyenaConvRefIdeal [hHyenaConvIdeal : Cert.HyenaConvIdeal.Facts] [hHyenaConvRefIdeal : Cert.HyenaConvRefIdeal.Facts] : Prop :=
  ∀ (m : (ℓ : Loc Cert.HyenaConvIdeal.nD Cert.HyenaConvIdeal.τ Cert.HyenaConvIdeal.sig) → Buf (Elt Ideal) ℓ) (g : Dev Cert.HyenaConvIdeal.nD → PrngReg)
    (m' : (ℓ : Loc Cert.HyenaConvRefIdeal.nD Cert.HyenaConvRefIdeal.τ Cert.HyenaConvRefIdeal.sig) → Buf (Elt Ideal) ℓ) (g' : Dev Cert.HyenaConvRefIdeal.nD → PrngReg), Pre_HyenaConvIdeal m →
    (∀ c : Dev Cert.HyenaConvIdeal.nD,
      m' ((c.tc : Thread Cert.HyenaConvRefIdeal.nD Cert.HyenaConvRefIdeal.τ).loc Cert.HyenaConvRefIdeal.main_arg0) = m ((c.tc : Thread Cert.HyenaConvIdeal.nD Cert.HyenaConvIdeal.τ).loc Cert.HyenaConvIdeal.main_arg0)
      ∧ m' ((c.tc : Thread Cert.HyenaConvRefIdeal.nD Cert.HyenaConvRefIdeal.τ).loc Cert.HyenaConvRefIdeal.main_arg1) = m ((c.tc : Thread Cert.HyenaConvIdeal.nD Cert.HyenaConvIdeal.τ).loc Cert.HyenaConvIdeal.main_arg1)
      ∧ m' ((c.tc : Thread Cert.HyenaConvRefIdeal.nD Cert.HyenaConvRefIdeal.τ).loc Cert.HyenaConvRefIdeal.main_arg2) = m ((c.tc : Thread Cert.HyenaConvIdeal.nD Cert.HyenaConvIdeal.τ).loc Cert.HyenaConvIdeal.main_arg2)) →
    ∃ (v0 : (c : Dev Cert.HyenaConvIdeal.nD) → Buf (Elt Ideal) ((c.tc : Thread Cert.HyenaConvIdeal.nD Cert.HyenaConvIdeal.τ).loc Cert.HyenaConvIdeal.main_v1_0)) (v1 : (c : Dev Cert.HyenaConvIdeal.nD) → Buf (Elt Ideal) ((c.tc : Thread Cert.HyenaConvIdeal.nD Cert.HyenaConvIdeal.τ).loc Cert.HyenaConvIdeal.main_v1_1)) (v2 : (c : Dev Cert.HyenaConvIdeal.nD) → Buf (Elt Ideal) ((c.tc : Thread Cert.HyenaConvIdeal.nD Cert.HyenaConvIdeal.τ).loc Cert.HyenaConvIdeal.main_v1_2)),
      θ_run (Cert.HyenaConvIdeal.defs (F := Ideal)) (onTc (τ := Cert.HyenaConvIdeal.τ) (Cert.HyenaConvIdeal.main (F := Ideal))) ⟨m, fun _ => 0, g⟩ (fun r => ∀ c : Dev Cert.HyenaConvIdeal.nD,
          r.2.mem ((c.tc : Thread Cert.HyenaConvIdeal.nD Cert.HyenaConvIdeal.τ).loc Cert.HyenaConvIdeal.main_v1_0) = v0 c
          ∧ r.2.mem ((c.tc : Thread Cert.HyenaConvIdeal.nD Cert.HyenaConvIdeal.τ).loc Cert.HyenaConvIdeal.main_v1_1) = v1 c
          ∧ r.2.mem ((c.tc : Thread Cert.HyenaConvIdeal.nD Cert.HyenaConvIdeal.τ).loc Cert.HyenaConvIdeal.main_v1_2) = v2 c
          ∧ r.2.mem ((c.tc : Thread Cert.HyenaConvIdeal.nD Cert.HyenaConvIdeal.τ).loc Cert.HyenaConvIdeal.main_arg0) = m ((c.tc : Thread Cert.HyenaConvIdeal.nD Cert.HyenaConvIdeal.τ).loc Cert.HyenaConvIdeal.main_arg0)
          ∧ r.2.mem ((c.tc : Thread Cert.HyenaConvIdeal.nD Cert.HyenaConvIdeal.τ).loc Cert.HyenaConvIdeal.main_arg1) = m ((c.tc : Thread Cert.HyenaConvIdeal.nD Cert.HyenaConvIdeal.τ).loc Cert.HyenaConvIdeal.main_arg1)
          ∧ r.2.mem ((c.tc : Thread Cert.HyenaConvIdeal.nD Cert.HyenaConvIdeal.τ).loc Cert.HyenaConvIdeal.main_arg2) = m ((c.tc : Thread Cert.HyenaConvIdeal.nD Cert.HyenaConvIdeal.τ).loc Cert.HyenaConvIdeal.main_arg2))
      ∧ θ_run (Cert.HyenaConvRefIdeal.defs (F := Ideal)) (onTc (τ := Cert.HyenaConvRefIdeal.τ) (Cert.HyenaConvRefIdeal.main (F := Ideal))) ⟨m', fun _ => 0, g'⟩ (fun r => ∀ c : Dev Cert.HyenaConvRefIdeal.nD,
          r.2.mem ((c.tc : Thread Cert.HyenaConvRefIdeal.nD Cert.HyenaConvRefIdeal.τ).loc Cert.HyenaConvRefIdeal.main_v28) = v0 c
          ∧ r.2.mem ((c.tc : Thread Cert.HyenaConvRefIdeal.nD Cert.HyenaConvRefIdeal.τ).loc Cert.HyenaConvRefIdeal.main_v29) = v1 c
          ∧ r.2.mem ((c.tc : Thread Cert.HyenaConvRefIdeal.nD Cert.HyenaConvRefIdeal.τ).loc Cert.HyenaConvRefIdeal.main_v30) = v2 c
          ∧ r.2.mem ((c.tc : Thread Cert.HyenaConvRefIdeal.nD Cert.HyenaConvRefIdeal.τ).loc Cert.HyenaConvRefIdeal.main_arg0) = m' ((c.tc : Thread Cert.HyenaConvRefIdeal.nD Cert.HyenaConvRefIdeal.τ).loc Cert.HyenaConvRefIdeal.main_arg0)
          ∧ r.2.mem ((c.tc : Thread Cert.HyenaConvRefIdeal.nD Cert.HyenaConvRefIdeal.τ).loc Cert.HyenaConvRefIdeal.main_arg1) = m' ((c.tc : Thread Cert.HyenaConvRefIdeal.nD Cert.HyenaConvRefIdeal.τ).loc Cert.HyenaConvRefIdeal.main_arg1)
          ∧ r.2.mem ((c.tc : Thread Cert.HyenaConvRefIdeal.nD Cert.HyenaConvRefIdeal.τ).loc Cert.HyenaConvRefIdeal.main_arg2) = m' ((c.tc : Thread Cert.HyenaConvRefIdeal.nD Cert.HyenaConvRefIdeal.τ).loc Cert.HyenaConvRefIdeal.main_arg2))

def preserves_CombineSample_CombineSampleIdeal : Prop :=
  True

def algebraic_CombineSampleIdeal_CombineSampleRefIdeal [hCombineSampleIdeal : Cert.CombineSampleIdeal.Facts] [hCombineSampleRefIdeal : Cert.CombineSampleRefIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg)
    (m' : (ℓ : Loc Cert.CombineSampleRefIdeal.nD Cert.CombineSampleRefIdeal.τ Cert.CombineSampleRefIdeal.sig) → Buf (Elt Ideal) ℓ) (g' : Dev Cert.CombineSampleRefIdeal.nD → PrngReg), Pre_CombineSampleIdeal m →
    (∀ c : Dev Cert.CombineSampleIdeal.nD,
      m' ((c.tc : Thread Cert.CombineSampleRefIdeal.nD Cert.CombineSampleRefIdeal.τ).loc Cert.CombineSampleRefIdeal.main_arg0) = m ((c.tc : Thread Cert.CombineSampleIdeal.nD Cert.CombineSampleIdeal.τ).loc Cert.CombineSampleIdeal.main_arg0)
      ∧ m' ((c.tc : Thread Cert.CombineSampleRefIdeal.nD Cert.CombineSampleRefIdeal.τ).loc Cert.CombineSampleRefIdeal.main_arg1) = m ((c.tc : Thread Cert.CombineSampleIdeal.nD Cert.CombineSampleIdeal.τ).loc Cert.CombineSampleIdeal.main_arg1)
      ∧ m' ((c.tc : Thread Cert.CombineSampleRefIdeal.nD Cert.CombineSampleRefIdeal.τ).loc Cert.CombineSampleRefIdeal.main_arg2) = m ((c.tc : Thread Cert.CombineSampleIdeal.nD Cert.CombineSampleIdeal.τ).loc Cert.CombineSampleIdeal.main_arg2)) →
    ∃ (v0 : (c : Dev Cert.CombineSampleIdeal.nD) → Buf (Elt Ideal) ((c.tc : Thread Cert.CombineSampleIdeal.nD Cert.CombineSampleIdeal.τ).loc Cert.CombineSampleIdeal.main_v2)),
      θ_run (Cert.CombineSampleIdeal.defs (F := Ideal)) (onTc (τ := Cert.CombineSampleIdeal.τ) (Cert.CombineSampleIdeal.main (F := Ideal))) ⟨m, fun _ => 0, g⟩ (fun r => ∀ c : Dev Cert.CombineSampleIdeal.nD,
          r.2.mem ((c.tc : Thread Cert.CombineSampleIdeal.nD Cert.CombineSampleIdeal.τ).loc Cert.CombineSampleIdeal.main_v2) = v0 c
          ∧ r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
          ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
          ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2))
      ∧ θ_run (Cert.CombineSampleRefIdeal.defs (F := Ideal)) (onTc (τ := Cert.CombineSampleRefIdeal.τ) (Cert.CombineSampleRefIdeal.main (F := Ideal))) ⟨m', fun _ => 0, g'⟩ (fun r => ∀ c : Dev Cert.CombineSampleRefIdeal.nD,
          r.2.mem ((c.tc : Thread Cert.CombineSampleRefIdeal.nD Cert.CombineSampleRefIdeal.τ).loc Cert.CombineSampleRefIdeal.main_v17) = v0 c
          ∧ r.2.mem ((c.tc : Thread Cert.CombineSampleRefIdeal.nD Cert.CombineSampleRefIdeal.τ).loc Cert.CombineSampleRefIdeal.main_arg0) = m' ((c.tc : Thread Cert.CombineSampleRefIdeal.nD Cert.CombineSampleRefIdeal.τ).loc Cert.CombineSampleRefIdeal.main_arg0)
          ∧ r.2.mem ((c.tc : Thread Cert.CombineSampleRefIdeal.nD Cert.CombineSampleRefIdeal.τ).loc Cert.CombineSampleRefIdeal.main_arg1) = m' ((c.tc : Thread Cert.CombineSampleRefIdeal.nD Cert.CombineSampleRefIdeal.τ).loc Cert.CombineSampleRefIdeal.main_arg1)
          ∧ r.2.mem ((c.tc : Thread Cert.CombineSampleRefIdeal.nD Cert.CombineSampleRefIdeal.τ).loc Cert.CombineSampleRefIdeal.main_arg2) = m' ((c.tc : Thread Cert.CombineSampleRefIdeal.nD Cert.CombineSampleRefIdeal.τ).loc Cert.CombineSampleRefIdeal.main_arg2))

def preserves_CombineFirst_CombineFirstIdeal : Prop :=
  True

def algebraic_CombineFirstIdeal_CombineFirstRefIdeal [hCombineFirstIdeal : Cert.CombineFirstIdeal.Facts] [hCombineFirstRefIdeal : Cert.CombineFirstRefIdeal.Facts] : Prop :=
  ∀ (m : (ℓ : Loc Cert.CombineFirstIdeal.nD Cert.CombineFirstIdeal.τ Cert.CombineFirstIdeal.sig) → Buf (Elt Ideal) ℓ) (g : Dev Cert.CombineFirstIdeal.nD → PrngReg)
    (m' : (ℓ : Loc Cert.CombineFirstRefIdeal.nD Cert.CombineFirstRefIdeal.τ Cert.CombineFirstRefIdeal.sig) → Buf (Elt Ideal) ℓ) (g' : Dev Cert.CombineFirstRefIdeal.nD → PrngReg), Pre_CombineFirstIdeal m →
    (∀ c : Dev Cert.CombineFirstIdeal.nD,
      m' ((c.tc : Thread Cert.CombineFirstRefIdeal.nD Cert.CombineFirstRefIdeal.τ).loc Cert.CombineFirstRefIdeal.main_arg0) = m ((c.tc : Thread Cert.CombineFirstIdeal.nD Cert.CombineFirstIdeal.τ).loc Cert.CombineFirstIdeal.main_arg0)
      ∧ m' ((c.tc : Thread Cert.CombineFirstRefIdeal.nD Cert.CombineFirstRefIdeal.τ).loc Cert.CombineFirstRefIdeal.main_arg1) = m ((c.tc : Thread Cert.CombineFirstIdeal.nD Cert.CombineFirstIdeal.τ).loc Cert.CombineFirstIdeal.main_arg1)) →
    ∃ (v0 : (c : Dev Cert.CombineFirstIdeal.nD) → Buf (Elt Ideal) ((c.tc : Thread Cert.CombineFirstIdeal.nD Cert.CombineFirstIdeal.τ).loc Cert.CombineFirstIdeal.main_v3)),
      θ_run (Cert.CombineFirstIdeal.defs (F := Ideal)) (onTc (τ := Cert.CombineFirstIdeal.τ) (Cert.CombineFirstIdeal.main (F := Ideal))) ⟨m, fun _ => 0, g⟩ (fun r => ∀ c : Dev Cert.CombineFirstIdeal.nD,
          r.2.mem ((c.tc : Thread Cert.CombineFirstIdeal.nD Cert.CombineFirstIdeal.τ).loc Cert.CombineFirstIdeal.main_v3) = v0 c
          ∧ r.2.mem ((c.tc : Thread Cert.CombineFirstIdeal.nD Cert.CombineFirstIdeal.τ).loc Cert.CombineFirstIdeal.main_arg0) = m ((c.tc : Thread Cert.CombineFirstIdeal.nD Cert.CombineFirstIdeal.τ).loc Cert.CombineFirstIdeal.main_arg0)
          ∧ r.2.mem ((c.tc : Thread Cert.CombineFirstIdeal.nD Cert.CombineFirstIdeal.τ).loc Cert.CombineFirstIdeal.main_arg1) = m ((c.tc : Thread Cert.CombineFirstIdeal.nD Cert.CombineFirstIdeal.τ).loc Cert.CombineFirstIdeal.main_arg1))
      ∧ θ_run (Cert.CombineFirstRefIdeal.defs (F := Ideal)) (onTc (τ := Cert.CombineFirstRefIdeal.τ) (Cert.CombineFirstRefIdeal.main (F := Ideal))) ⟨m', fun _ => 0, g'⟩ (fun r => ∀ c : Dev Cert.CombineFirstRefIdeal.nD,
          r.2.mem ((c.tc : Thread Cert.CombineFirstRefIdeal.nD Cert.CombineFirstRefIdeal.τ).loc Cert.CombineFirstRefIdeal.main_v4) = v0 c
          ∧ r.2.mem ((c.tc : Thread Cert.CombineFirstRefIdeal.nD Cert.CombineFirstRefIdeal.τ).loc Cert.CombineFirstRefIdeal.main_arg0) = m' ((c.tc : Thread Cert.CombineFirstRefIdeal.nD Cert.CombineFirstRefIdeal.τ).loc Cert.CombineFirstRefIdeal.main_arg0)
          ∧ r.2.mem ((c.tc : Thread Cert.CombineFirstRefIdeal.nD Cert.CombineFirstRefIdeal.τ).loc Cert.CombineFirstRefIdeal.main_arg1) = m' ((c.tc : Thread Cert.CombineFirstRefIdeal.nD Cert.CombineFirstRefIdeal.τ).loc Cert.CombineFirstRefIdeal.main_arg1))

def preserves_Router_RouterIdeal : Prop :=
  IdealRules.bf16_pair.BufferStatement Cert.RouterIdeal.S32768x2x1024 Cert.RouterIdeal.S32768x1x1024
  ∧ IdealRules.bf16_pair.BufferStatement Cert.RouterIdeal.S512x2x1024 Cert.RouterIdeal.S512x1x1024
  ∧ IdealRules.bf16_pair.Statement Cert.RouterIdeal.S512x2x1024 Cert.RouterIdeal.S512x1x1024
  ∧ IdealRules.bf16_pack.Statement Cert.RouterIdeal.S512x1024

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v5_0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v5_0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v17) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def Claim : Prop :=
  ∃ (hKernel : Cert.Kernel.Facts) (hKernelIdeal : Cert.KernelIdeal.Facts) (hReferenceIdeal : Cert.ReferenceIdeal.Facts) (hHyenaIn : Cert.HyenaIn.Facts) (hHyenaInIdeal : Cert.HyenaInIdeal.Facts) (hHyenaInRefIdeal : Cert.HyenaInRefIdeal.Facts) (hHyenaOut : Cert.HyenaOut.Facts) (hHyenaOutIdeal : Cert.HyenaOutIdeal.Facts) (hHyenaOutRefIdeal : Cert.HyenaOutRefIdeal.Facts) (hCombine : Cert.Combine.Facts) (hCombineIdeal : Cert.CombineIdeal.Facts) (hCombineRefIdeal : Cert.CombineRefIdeal.Facts) (hHyenaConv : Cert.HyenaConv.Facts) (hHyenaConvIdeal : Cert.HyenaConvIdeal.Facts) (hHyenaConvRefIdeal : Cert.HyenaConvRefIdeal.Facts) (hCombineSample : Cert.CombineSample.Facts) (hCombineSampleIdeal : Cert.CombineSampleIdeal.Facts) (hCombineSampleRefIdeal : Cert.CombineSampleRefIdeal.Facts) (hCombineFirst : Cert.CombineFirst.Facts) (hCombineFirstIdeal : Cert.CombineFirstIdeal.Facts) (hCombineFirstRefIdeal : Cert.CombineFirstRefIdeal.Facts) (hRouter : Cert.Router.Facts) (hRouterIdeal : Cert.RouterIdeal.Facts) (hRouterRefIdeal : Cert.RouterRefIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_HyenaIn (hHyenaIn := hHyenaIn)
    ∧ quiescent_HyenaInIdeal (hHyenaInIdeal := hHyenaInIdeal)
    ∧ quiescent_HyenaInRefIdeal (hHyenaInRefIdeal := hHyenaInRefIdeal)
    ∧ quiescent_HyenaOut (hHyenaOut := hHyenaOut)
    ∧ quiescent_HyenaOutIdeal (hHyenaOutIdeal := hHyenaOutIdeal)
    ∧ quiescent_HyenaOutRefIdeal (hHyenaOutRefIdeal := hHyenaOutRefIdeal)
    ∧ quiescent_Combine (hCombine := hCombine)
    ∧ quiescent_CombineIdeal (hCombineIdeal := hCombineIdeal)
    ∧ quiescent_CombineRefIdeal (hCombineRefIdeal := hCombineRefIdeal)
    ∧ quiescent_HyenaConv (hHyenaConv := hHyenaConv)
    ∧ quiescent_HyenaConvIdeal (hHyenaConvIdeal := hHyenaConvIdeal)
    ∧ quiescent_HyenaConvRefIdeal (hHyenaConvRefIdeal := hHyenaConvRefIdeal)
    ∧ quiescent_CombineSample (hCombineSample := hCombineSample)
    ∧ quiescent_CombineSampleIdeal (hCombineSampleIdeal := hCombineSampleIdeal)
    ∧ quiescent_CombineSampleRefIdeal (hCombineSampleRefIdeal := hCombineSampleRefIdeal)
    ∧ quiescent_CombineFirst (hCombineFirst := hCombineFirst)
    ∧ quiescent_CombineFirstIdeal (hCombineFirstIdeal := hCombineFirstIdeal)
    ∧ quiescent_CombineFirstRefIdeal (hCombineFirstRefIdeal := hCombineFirstRefIdeal)
    ∧ quiescent_Router (hRouter := hRouter)
    ∧ quiescent_RouterIdeal (hRouterIdeal := hRouterIdeal)
    ∧ quiescent_RouterRefIdeal (hRouterRefIdeal := hRouterRefIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_HyenaIn_HyenaInIdeal
    ∧ algebraic_HyenaInIdeal_HyenaInRefIdeal (hHyenaInIdeal := hHyenaInIdeal) (hHyenaInRefIdeal := hHyenaInRefIdeal)
    ∧ preserves_HyenaOut_HyenaOutIdeal
    ∧ algebraic_HyenaOutIdeal_HyenaOutRefIdeal (hHyenaOutIdeal := hHyenaOutIdeal) (hHyenaOutRefIdeal := hHyenaOutRefIdeal)
    ∧ preserves_Combine_CombineIdeal
    ∧ algebraic_CombineIdeal_CombineRefIdeal (hCombineIdeal := hCombineIdeal) (hCombineRefIdeal := hCombineRefIdeal)
    ∧ preserves_HyenaConv_HyenaConvIdeal
    ∧ algebraic_HyenaConvIdeal_HyenaConvRefIdeal (hHyenaConvIdeal := hHyenaConvIdeal) (hHyenaConvRefIdeal := hHyenaConvRefIdeal)
    ∧ preserves_CombineSample_CombineSampleIdeal
    ∧ algebraic_CombineSampleIdeal_CombineSampleRefIdeal (hCombineSampleIdeal := hCombineSampleIdeal) (hCombineSampleRefIdeal := hCombineSampleRefIdeal)
    ∧ preserves_CombineFirst_CombineFirstIdeal
    ∧ algebraic_CombineFirstIdeal_CombineFirstRefIdeal (hCombineFirstIdeal := hCombineFirstIdeal) (hCombineFirstRefIdeal := hCombineFirstRefIdeal)
    ∧ preserves_Router_RouterIdeal
    ∧ algebraic_RouterIdeal_RouterRefIdeal (hRouterIdeal := hRouterIdeal) (hRouterRefIdeal := hRouterRefIdeal)
-- ==== Pre_finite_args.lean ====
abbrev S2x16384x2048 : Shape := ⟨3, ![2, 16384, 2048]⟩
abbrev S2048 : Shape := ⟨1, ![2048]⟩
abbrev S2048x1088 : Shape := ⟨2, ![2048, 1088]⟩
abbrev S512 : Shape := ⟨1, ![512]⟩
abbrev S512x3072 : Shape := ⟨2, ![512, 3072]⟩
abbrev S512x4096 : Shape := ⟨2, ![512, 4096]⟩
abbrev S2048x2048 : Shape := ⟨2, ![2048, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x1088 : S_.BroadcastsInDim S2048x1088 (![] : Fin 0 → Fin S2048x1088.rank)
  reducesTo_S2048x1088_S_d0_1 : S2048x1088.ReducesTo [0, 1] S_
  bcast_S_S512 : S_.BroadcastsInDim S512 (![] : Fin 0 → Fin S512.rank)
  reducesTo_S512_S_d0 : S512.ReducesTo [0] S_
  bcast_S_S512x3072 : S_.BroadcastsInDim S512x3072 (![] : Fin 0 → Fin S512x3072.rank)
  reducesTo_S512x3072_S_d0_1 : S512x3072.ReducesTo [0, 1] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg5 : FVec F S512 .f32) (main_arg6 : FVec F S512x4096 .f32) (main_v13 : IVec S_ 1) (main_v16 : IVec S512x3072 1) : IVec S_ 1 :=
  let main_c_5 : IVec S_ 1 := constantI S_ 1 1#1
  let main_v17 : IVec S_ 1 := (fun x v => Host.reduce IntOp.andi x v reducesTo_S512x3072_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x4096 .f32 := Host.absf main_arg6
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  main_v28

def fn {F : FTy → Type} [FloatOps F] (main_arg0 : FVec F S2x16384x2048 .f32) (main_arg1 : FVec F S2048 .f32) (main_arg2 : FVec F S2048x1088 .f32) (main_arg3 : FVec F S512 .f32) (main_arg4 : FVec F S512x3072 .f32) (main_arg5 : FVec F S512 .f32) (main_arg6 : FVec F S512x4096 .f32) (main_arg7 : FVec F S2048x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x1088 .f32 := Host.absf main_arg2
  let main_cst_0 : FVec F S_ .f32 := constant S_ .f32 0x7F800000#32
  let main_v5 : FVec F S2048x1088 .f32 := broadcastInDim S2048x1088 ![] bcast_S_S2048x1088 main_cst_0
  let main_v6 : IVec S2048x1088 1 := cmpf .olt main_v4 main_v5
  let main_c_1 : IVec S_ 1 := constantI S_ 1 1#1
  let main_v7 : IVec S_ 1 := (fun x v => Host.reduce IntOp.andi x v reducesTo_S2048x1088_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x3072 .f32 := Host.absf main_arg4
  let main_cst_4 : FVec F S_ .f32 := constant S_ .f32 0x7F800000#32
  let main_v15 : FVec F S512x3072 .f32 := broadcastInDim S512x3072 ![] bcast_S_S512x3072 main_cst_4
  let main_v16 : IVec S512x3072 1 := cmpf .olt main_v14 main_v15
  fn_part1 (F := F) main_arg5 main_arg6 main_v13 main_v16
-- ==== Kernel.lean ====
abbrev S2x16384x2048 : Shape := ⟨3, ![2, 16384, 2048]⟩
abbrev S2048 : Shape := ⟨1, ![2048]⟩
abbrev S2048x1088 : Shape := ⟨2, ![2048, 1088]⟩
abbrev S512 : Shape := ⟨1, ![512]⟩
abbrev S512x3072 : Shape := ⟨2, ![512, 3072]⟩
abbrev S512x4096 : Shape := ⟨2, ![512, 4096]⟩
abbrev S2048x2048 : Shape := ⟨2, ![2048, 2048]⟩
abbrev S32768x2048 : Shape := ⟨2, ![32768, 2048]⟩
abbrev S2048x64 : Shape := ⟨2, ![2048, 64]⟩
abbrev S2048x32 : Shape := ⟨2, ![2048, 32]⟩
abbrev S2048x1152 : Shape := ⟨2, ![2048, 1152]⟩
abbrev S1x2048 : Shape := ⟨2, ![1, 2048]⟩
abbrev S32768x1152 : Shape := ⟨2, ![32768, 1152]⟩
abbrev S512x2048 : Shape := ⟨2, ![512, 2048]⟩
abbrev S512x1152 : Shape := ⟨2, ![512, 1152]⟩
abbrev S512x1 : Shape := ⟨2, ![512, 1]⟩
abbrev S512x16x192 : Shape := ⟨3, ![512, 16, 192]⟩
abbrev S512x16x64 : Shape := ⟨3, ![512, 16, 64]⟩
abbrev S_ : Shape := ⟨0, ![]⟩
abbrev S512x16x128 : Shape := ⟨3, ![512, 16, 128]⟩
abbrev S512x16x32 : Shape := ⟨3, ![512, 16, 32]⟩
abbrev S512x16x384 : Shape := ⟨3, ![512, 16, 384]⟩
abbrev S512x6144 : Shape := ⟨2, ![512, 6144]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x512 : Shape := ⟨2, ![1, 512]⟩
abbrev S2x16x16384x256 : Shape := ⟨4, ![2, 16, 16384, 256]⟩
abbrev S256x1152 : Shape := ⟨2, ![256, 1152]⟩
abbrev S256x128 : Shape := ⟨2, ![256, 128]⟩
abbrev S1x16x256x256 : Shape := ⟨4, ![1, 16, 256, 256]⟩
abbrev S256x512 : Shape := ⟨2, ![256, 512]⟩
abbrev S256 : Shape := ⟨1, ![256]⟩
abbrev S256x1 : Shape := ⟨2, ![256, 1]⟩
abbrev S512x384 : Shape := ⟨2, ![512, 384]⟩
abbrev S256x384 : Shape := ⟨2, ![256, 384]⟩
abbrev S1x1x256x128 : Shape := ⟨4, ![1, 1, 256, 128]⟩
abbrev S512x256 : Shape := ⟨2, ![512, 256]⟩
abbrev S256x256 : Shape := ⟨2, ![256, 256]⟩
abbrev S1x1x512x256 : Shape := ⟨4, ![1, 1, 512, 256]⟩
abbrev S1x1x16384x256 : Shape := ⟨4, ![1, 1, 16384, 256]⟩
abbrev S1x512x128 : Shape := ⟨3, ![1, 512, 128]⟩
abbrev S1x1x1024x256 : Shape := ⟨4, ![1, 1, 1024, 256]⟩
abbrev S1024x256 : Shape := ⟨2, ![1024, 256]⟩
abbrev S512x1024 : Shape := ⟨2, ![512, 1024]⟩
abbrev S512x128 : Shape := ⟨2, ![512, 128]⟩
abbrev S2048x1024 : Shape := ⟨2, ![2048, 1024]⟩

abbrev nBuf : Space → Nat
  | .hbm => 76
  | .vmem => 43
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512x3072, .f32⟩
  | .hbm, ⟨5, _⟩ => ⟨S512, .f32⟩
  | .hbm, ⟨6, _⟩ => ⟨S512x4096, .f32⟩
  | .hbm, ⟨7, _⟩ => ⟨S2048x2048, .f32⟩
  | .hbm, ⟨8, _⟩ => ⟨S32768x2048, .f32⟩
  | .hbm, ⟨9, _⟩ => ⟨S2048x64, .f32⟩
  | .hbm, ⟨10, _⟩ => ⟨S2048x32, .f32⟩
  | .hbm, ⟨11, _⟩ => ⟨S2048x32, .f32⟩
  | .hbm, ⟨12, _⟩ => ⟨S2048x32, .f32⟩
  | .hbm, ⟨13, _⟩ => ⟨S2048x64, .f32⟩
  | .hbm, ⟨14, _⟩ => ⟨S2048x1152, .f32⟩
  | .hbm, ⟨15, _⟩ => ⟨S2048x1152, .bf16⟩
  | .hbm, ⟨16, _⟩ => ⟨S1x2048, .f32⟩
  | .hbm, ⟨17, _⟩ => ⟨S32768x1152, .f32⟩
  | .hbm, ⟨18, _⟩ => ⟨S512x16x192, .f32⟩
  | .hbm, ⟨19, _⟩ => ⟨S512x16x64, .f32⟩
  | .hbm, ⟨20, _⟩ => ⟨S_, .f32⟩
  | .hbm, ⟨21, _⟩ => ⟨S512x16x64, .f32⟩
  | .hbm, ⟨22, _⟩ => ⟨S512x16x128, .f32⟩
  | .hbm, ⟨23, _⟩ => ⟨S512x16x32, .f32⟩
  | .hbm, ⟨24, _⟩ => ⟨S512x16x32, .f32⟩
  | .hbm, ⟨25, _⟩ => ⟨S512x16x32, .f32⟩
  | .hbm, ⟨26, _⟩ => ⟨S512x16x64, .f32⟩
  | .hbm, ⟨27, _⟩ => ⟨S512x16x384, .f32⟩
  | .hbm, ⟨28, _⟩ => ⟨S512x6144, .f32⟩
  | .hbm, ⟨29, _⟩ => ⟨S512x6144, .bf16⟩
  | .hbm, ⟨30, _⟩ => ⟨S512x4096, .bf16⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S16384, .f32⟩
  | .hbm, ⟨48, _⟩ => ⟨S16384x1, .f32⟩
  | .hbm, ⟨49, _⟩ => ⟨S1x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x64, .f32⟩
  | .hbm, ⟨54, _⟩ => ⟨S_, .f32⟩
  | .hbm, ⟨55, _⟩ => ⟨S16384x64, .f32⟩
  | .hbm, ⟨56, _⟩ => ⟨S16384x64, .f32⟩
  | .hbm, ⟨57, _⟩ => ⟨S16384x128, .f32⟩
  | .hbm, ⟨58, _⟩ => ⟨S16384x64, .f32⟩
  | .hbm, ⟨59, _⟩ => ⟨S16384x128, .f32⟩
  | .hbm, ⟨60, _⟩ => ⟨S_, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S1x512, .f32⟩
  | .hbm, ⟨67, _⟩ => ⟨S1x512, .f32⟩
  | .hbm, ⟨68, _⟩ => ⟨S2x16x16384x256, .bf16⟩
  | .hbm, ⟨69, _⟩ => ⟨S2x16x16384x256, .bf16⟩
  | .hbm, ⟨70, _⟩ => ⟨S2x16x16384x256, .bf16⟩
  | .hbm, ⟨71, _⟩ => ⟨S2x16384x2048, .bf16⟩
  | .hbm, ⟨72, _⟩ => ⟨S32768x2048, .bf16⟩
  | .hbm, ⟨73, _⟩ => ⟨S2048x2048, .bf16⟩
  | .hbm, ⟨74, _⟩ => ⟨S32768x2048, .f32⟩
  | .hbm, ⟨75, _⟩ => ⟨S2x16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1152, .bf16⟩
  | .local _ .vmem, ⟨4, _⟩ => ⟨S512x1152, .f32⟩
  | .local _ .vmem, ⟨5, _⟩ => ⟨S512x1152, .f32⟩
  | .local _ .vmem, ⟨6, _⟩ => ⟨S512x2048, .bf16⟩
  | .local _ .vmem, ⟨7, _⟩ => ⟨S256x1152, .f32⟩
  | .local _ .vmem, ⟨8, _⟩ => ⟨S256x1152, .f32⟩
  | .local _ .vmem, ⟨9, _⟩ => ⟨S1x512, .f32⟩
  | .local _ .vmem, ⟨10, _⟩ => ⟨S1x512, .f32⟩
  | .local _ .vmem, ⟨11, _⟩ => ⟨S512x6144, .bf16⟩
  | .local _ .vmem, ⟨12, _⟩ => ⟨S512x4096, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S1x16x256x256, .bf16⟩
  | .local _ .vmem, ⟨22, _⟩ => ⟨S1x16x256x256, .bf16⟩
  | .local _ .vmem, ⟨23, _⟩ => ⟨S1x16x256x256, .bf16⟩
  | .local _ .vmem, ⟨24, _⟩ => ⟨S1x16x256x256, .bf16⟩
  | .local _ .vmem, ⟨25, _⟩ => ⟨S1x16x256x256, .bf16⟩
  | .local _ .vmem, ⟨26, _⟩ => ⟨S1x16x256x256, .bf16⟩
  | .local _ .vmem, ⟨27, _⟩ => ⟨S1x1x512x256, .bf16⟩
  | .local _ .vmem, ⟨28, _⟩ => ⟨S1x1x512x256, .bf16⟩
  | .local _ .vmem, ⟨29, _⟩ => ⟨S1x1x16384x256, .bf16⟩
  | .local _ .vmem, ⟨30, _⟩ => ⟨S1x1x16384x256, .bf16⟩
  | .local _ .vmem, ⟨31, _⟩ => ⟨S1x1x16384x256, .bf16⟩
  | .local _ .vmem, ⟨32, _⟩ => ⟨S1x1x16384x256, .bf16⟩
  | .local _ .vmem, ⟨33, _⟩ => ⟨S1x512x128, .bf16⟩
  | .local _ .vmem, ⟨34, _⟩ => ⟨S1x512x128, .bf16⟩
  | .local _ .vmem, ⟨35, _⟩ => ⟨S512x2048, .bf16⟩
  | .local _ .vmem, ⟨36, _⟩ => ⟨S512x2048, .bf16⟩
  | .local _ .vmem, ⟨37, _⟩ => ⟨S2048x1024, .bf16⟩
  | .local _ .vmem, ⟨38, _⟩ => ⟨S2048x1024, .bf16⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_6 (i : grid1.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_7 (i : grid1.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_8 (i : grid1.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_9 (i : grid1.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_10 (i : grid1.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_11 (i : grid1.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage1_0 : Fin 2 → Memref sig .tc .vmem S256x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x6144 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x16x256x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x16x256x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x16x256x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨3, ![2, 16, 32], ![false, false, false]⟩

def k2_mult1 : BitVec 32 :=
  let c0_i32 : BitVec 32 := 0#32
  let c1024_i32 : BitVec 32 := 1024#32
  let v4 : BitVec 32 := Scalar.muli c0_i32 c1024_i32
  v4
def k2_off1 (c0_i32 : BitVec 32) : Fin 4 → Nat :=
  let c0_4 : Index := 0#32
  let c0_5 : Index := 0#32
  let c1024_i32 : BitVec 32 := 1024#32
  let v4 : BitVec 32 := Scalar.muli c0_i32 c1024_i32
  let v5 : BitVec 32 := v4
  let v6 : Index := Scalar.indexCast v5
  let c0_6 : Index := 0#32
  ![0, 0, v6.toNat, 0]
def k2_mult2 : BitVec 32 :=
  let c1_i32 : BitVec 32 := 1#32
  let c1024_i32_13 : BitVec 32 := 1024#32
  let v26 : BitVec 32 := Scalar.muli c1_i32 c1024_i32_13
  v26
def k2_mult3 : BitVec 32 :=
  let c2_i32 : BitVec 32 := 2#32
  let c1024_i32_23 : BitVec 32 := 1024#32
  let v48 : BitVec 32 := Scalar.muli c2_i32 c1024_i32_23
  v48
def k2_mult4 : BitVec 32 :=
  let c3_i32 : BitVec 32 := 3#32
  let c1024_i32_33 : BitVec 32 := 1024#32
  let v70 : BitVec 32 := Scalar.muli c3_i32 c1024_i32_33
  v70
def k2_mult5 : BitVec 32 :=
  let c4_i32 : BitVec 32 := 4#32
  let c1024_i32_43 : BitVec 32 := 1024#32
  let v92 : BitVec 32 := Scalar.muli c4_i32 c1024_i32_43
  v92
def k2_mult6 : BitVec 32 :=
  let c5_i32 : BitVec 32 := 5#32
  let c1024_i32_53 : BitVec 32 := 1024#32
  let v114 : BitVec 32 := Scalar.muli c5_i32 c1024_i32_53
  v114
def k2_mult7 : BitVec 32 :=
  let c6_i32 : BitVec 32 := 6#32
  let c1024_i32_63 : BitVec 32 := 1024#32
  let v136 : BitVec 32 := Scalar.muli c6_i32 c1024_i32_63
  v136
def k2_mult8 : BitVec 32 :=
  let c7_i32 : BitVec 32 := 7#32
  let c1024_i32_73 : BitVec 32 := 1024#32
  let v158 : BitVec 32 := Scalar.muli c7_i32 c1024_i32_73
  v158
def k2_mult9 : BitVec 32 :=
  let c8_i32 : BitVec 32 := 8#32
  let c1024_i32_83 : BitVec 32 := 1024#32
  let v180 : BitVec 32 := Scalar.muli c8_i32 c1024_i32_83
  v180
def k2_mult10 : BitVec 32 :=
  let c9_i32 : BitVec 32 := 9#32
  let c1024_i32_93 : BitVec 32 := 1024#32
  let v202 : BitVec 32 := Scalar.muli c9_i32 c1024_i32_93
  v202
def k2_mult11 : BitVec 32 :=
  let c10_i32 : BitVec 32 := 10#32
  let c1024_i32_103 : BitVec 32 := 1024#32
  let v224 : BitVec 32 := Scalar.muli c10_i32 c1024_i32_103
  v224
def k2_mult12 : BitVec 32 :=
  let c11_i32 : BitVec 32 := 11#32
  let c1024_i32_113 : BitVec 32 := 1024#32
  let v246 : BitVec 32 := Scalar.muli c11_i32 c1024_i32_113
  v246
def k2_mult13 : BitVec 32 :=
  let c12_i32 : BitVec 32 := 12#32
  let c1024_i32_123 : BitVec 32 := 1024#32
  let v268 : BitVec 32 := Scalar.muli c12_i32 c1024_i32_123
  v268
def k2_mult14 : BitVec 32 :=
  let c13_i32 : BitVec 32 := 13#32
  let c1024_i32_133 : BitVec 32 := 1024#32
  let v290 : BitVec 32 := Scalar.muli c13_i32 c1024_i32_133
  v290
def k2_mult15 : BitVec 32 :=
  let c14_i32 : BitVec 32 := 14#32
  let c1024_i32_143 : BitVec 32 := 1024#32
  let v312 : BitVec 32 := Scalar.muli c14_i32 c1024_i32_143
  v312
def k2_mult16 : BitVec 32 :=
  let c15_i32 : BitVec 32 := 15#32
  let c1024_i32_153 : BitVec 32 := 1024#32
  let v334 : BitVec 32 := Scalar.muli c15_i32 c1024_i32_153
  v334
def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x1x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1x16384x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1x16384x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x512x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨2, ![64, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== ReferenceIdeal.lean ====
abbrev S2x16384x2048 : Shape := ⟨3, ![2, 16384, 2048]⟩
abbrev S2048 : Shape := ⟨1, ![2048]⟩
abbrev S2048x1088 : Shape := ⟨2, ![2048, 1088]⟩
abbrev S512 : Shape := ⟨1, ![512]⟩
abbrev S512x3072 : Shape := ⟨2, ![512, 3072]⟩
abbrev S512x4096 : Shape := ⟨2, ![512, 4096]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x1088 : Shape := ⟨3, ![2, 16384, 1088]⟩
abbrev S2x16384x512 : Shape := ⟨3, ![2, 16384, 512]⟩
abbrev S2x16384x64 : Shape := ⟨3, ![2, 16384, 64]⟩
abbrev S1x1x512 : Shape := ⟨3, ![1, 1, 512]⟩
abbrev S2x16384x3072 : Shape := ⟨3, ![2, 16384, 3072]⟩
abbrev S2x16384x16x192 : Shape := ⟨4, ![2, 16384, 16, 192]⟩
abbrev S2x16384x4096 : Shape := ⟨3, ![2, 16384, 4096]⟩
abbrev S2x16384x16x256 : Shape := ⟨4, ![2, 16384, 16, 256]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S2x16384x16x128 : Shape := ⟨4, ![2, 16384, 16, 128]⟩
abbrev S2x16384x16x64 : Shape := ⟨4, ![2, 16384, 16, 64]⟩
abbrev S16384x1x64 : Shape := ⟨3, ![16384, 1, 64]⟩
abbrev S2x16384x16x32 : Shape := ⟨4, ![2, 16384, 16, 32]⟩
abbrev S1x16384x1x64 : Shape := ⟨4, ![1, 16384, 1, 64]⟩
abbrev S2x16384x32 : Shape := ⟨3, ![2, 16384, 32]⟩
abbrev S1x16384x64 : Shape := ⟨3, ![1, 16384, 64]⟩
abbrev S2x16x16384x16384 : Shape := ⟨4, ![2, 16, 16384, 16384]⟩
abbrev S2x16384x16384x16 : Shape := ⟨4, ![2, 16384, 16384, 16]⟩
abbrev S2x16x16384 : Shape := ⟨3, ![2, 16, 16384]⟩
abbrev S2x16x16384x1 : Shape := ⟨4, ![2, 16, 16384, 1]⟩
abbrev S2x16x128x16384 : Shape := ⟨4, ![2, 16, 128, 16384]⟩

abbrev nBuf : Space → Nat
  | .hbm => 143
  | .vmem => 0
  | .smem => 0
  | _ => 0

abbrev hbmTy0_0 (i : Nat) : BufTy := match i % 128 with
  | 0 => ⟨S2x16384x2048, .f32⟩
  | 1 => ⟨S2048, .f32⟩
  | 2 => ⟨S2048x1088, .f32⟩
  | 3 => ⟨S512, .f32⟩
  | 4 => ⟨S512x3072, .f32⟩
  | 5 => ⟨S512, .f32⟩
  | 6 => ⟨S512x4096, .f32⟩
  | 7 => ⟨S2048x2048, .f32⟩
  | 8 => ⟨S2x16384x2048, .f32⟩
  | 9 => ⟨S_, .f32⟩
  | 10 => ⟨S2x16384, .f32⟩
  | 11 => ⟨S2x16384x1, .f32⟩
  | 12 => ⟨S_, .f32⟩
  | 13 => ⟨S2x16384x1, .f32⟩
  | 14 => ⟨S2x16384x1, .f32⟩
  | 15 => ⟨S_, .f32⟩
  | 16 => ⟨S2x16384x1, .f32⟩
  | 17 => ⟨S2x16384x1, .f32⟩
  | 18 => ⟨S2x16384x1, .f32⟩
  | 19 => ⟨S2x16384x2048, .f32⟩
  | 20 => ⟨S2x16384x2048, .f32⟩
  | 21 => ⟨S1x1x2048, .f32⟩
  | 22 => ⟨S2x16384x2048, .f32⟩
  | 23 => ⟨S2x16384x2048, .f32⟩
  | 24 => ⟨S2x16384x1088, .f32⟩
  | 25 => ⟨S2x16384x512, .f32⟩
  | 26 => ⟨S2x16384x512, .f32⟩
  | 27 => ⟨S2x16384x64, .f32⟩
  | 28 => ⟨S2x16384x512, .f32⟩
  | 29 => ⟨S_, .f32⟩
  | 30 => ⟨S2x16384, .f32⟩
  | 31 => ⟨S2x16384x1, .f32⟩
  | 32 => ⟨S_, .f32⟩
  | 33 => ⟨S2x16384x1, .f32⟩
  | 34 => ⟨S2x16384x1, .f32⟩
  | 35 => ⟨S_, .f32⟩
  | 36 => ⟨S2x16384x1, .f32⟩
  | 37 => ⟨S2x16384x1, .f32⟩
  | 38 => ⟨S2x16384x1, .f32⟩
  | 39 => ⟨S2x16384x512, .f32⟩
  | 40 => ⟨S2x16384x512, .f32⟩
  | 41 => ⟨S1x1x512, .f32⟩
  | 42 => ⟨S2x16384x512, .f32⟩
  | 43 => ⟨S2x16384x512, .f32⟩
  | 44 => ⟨S2x16384x3072, .f32⟩
  | 45 => ⟨S2x16384x16x192, .f32⟩
  | 46 => ⟨S2x16384x512, .f32⟩
  | 47 => ⟨S_, .f32⟩
  | 48 => ⟨S2x16384, .f32⟩
  | 49 => ⟨S2x16384x1, .f32⟩
  | 50 => ⟨S_, .f32⟩
  | 51 => ⟨S2x16384x1, .f32⟩
  | 52 => ⟨S2x16384x1, .f32⟩
  | 53 => ⟨S_, .f32⟩
  | 54 => ⟨S2x16384x1, .f32⟩
  | 55 => ⟨S2x16384x1, .f32⟩
  | 56 => ⟨S2x16384x1, .f32⟩
  | 57 => ⟨S2x16384x512, .f32⟩
  | 58 => ⟨S2x16384x512, .f32⟩
  | 59 => ⟨S1x1x512, .f32⟩
  | 60 => ⟨S2x16384x512, .f32⟩
  | 61 => ⟨S2x16384x512, .f32⟩
  | 62 => ⟨S2x16384x4096, .f32⟩
  | 63 => ⟨S2x16384x16x256, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S16384, .f32⟩
  | 81 => ⟨S16384x1, .f32⟩
  | 82 => ⟨S1x32, .f32⟩
  | 83 => ⟨S16384x32, .f32⟩
  | 84 => ⟨S16384x32, .f32⟩
  | 85 => ⟨S16384x32, .f32⟩
  | 86 => ⟨S16384x64, .f32⟩
  | 87 => ⟨S16384x64, .f32⟩
  | 88 => ⟨S16384x64, .f32⟩
  | 89 => ⟨S2x16384x16x128, .f32⟩
  | 90 => ⟨S2x16384x16x64, .f32⟩
  | 91 => ⟨S16384x1x64, .f32⟩
  | 92 => ⟨S16384x1x64, .f32⟩
  | 93 => ⟨S2x16384x16x32, .f32⟩
  | 94 => ⟨S2x16384x16x32, .f32⟩
  | 95 => ⟨S2x16384x16x32, .f32⟩
  | 96 => ⟨S2x16384x16x64, .f32⟩
  | 97 => ⟨S1x16384x1x64, .f32⟩
  | 98 => ⟨S2x16384x16x64, .f32⟩
  | 99 => ⟨S2x16384x16x64, .f32⟩
  | 100 => ⟨S1x16384x1x64, .f32⟩
  | 101 => ⟨S2x16384x16x64, .f32⟩
  | 102 => ⟨S2x16384x16x64, .f32⟩
  | 103 => ⟨S2x16384x16x64, .f32⟩
  | 104 => ⟨S2x16384x16x128, .f32⟩
  | 105 => ⟨S2x16384x16x128, .f32⟩
  | 106 => ⟨S2x16384x32, .f32⟩
  | 107 => ⟨S2x16384x32, .f32⟩
  | 108 => ⟨S2x16384x32, .f32⟩
  | 109 => ⟨S2x16384x64, .f32⟩
  | 110 => ⟨S1x16384x64, .f32⟩
  | 111 => ⟨S2x16384x64, .f32⟩
  | 112 => ⟨S2x16384x64, .f32⟩
  | 113 => ⟨S1x16384x64, .f32⟩
  | 114 => ⟨S2x16384x64, .f32⟩
  | 115 => ⟨S2x16384x64, .f32⟩
  | 116 => ⟨S2x16384x64, .f32⟩
  | 117 => ⟨S2x16x16384x16384, .f32⟩
  | 118 => ⟨S2x16384x16384x16, .f32⟩
  | 119 => ⟨S2x16x16384x16384, .f32⟩
  | 120 => ⟨S2x16x16384x16384, .f32⟩
  | 121 => ⟨S_, .f32⟩
  | 122 => ⟨S2x16x16384x16384, .f32⟩
  | 123 => ⟨S2x16x16384x16384, .f32⟩
  | 124 => ⟨S_, .f32⟩
  | 125 => ⟨S2x16x16384, .f32⟩
  | 126 => ⟨S_, .f32⟩
  | 127 => ⟨S2x16x16384, .f32⟩
  | _ => ⟨S2x16384x2048, .f32⟩

abbrev hbmTy0_1 (i : Nat) : BufTy := match i % 128 with
  | 0 => ⟨S2x16x16384, .f32⟩
  | 1 => ⟨S2x16x16384x1, .f32⟩
  | 2 => ⟨S2x16x16384x16384, .f32⟩
  | 3 => ⟨S2x16x16384x16384, .f32⟩
  | 4 => ⟨S2x16x16384x16384, .f32⟩
  | 5 => ⟨S_, .f32⟩
  | 6 => ⟨S2x16x16384, .f32⟩
  | 7 => ⟨S2x16x16384x1, .f32⟩
  | 8 => ⟨S2x16x16384x16384, .f32⟩
  | 9 => ⟨S2x16x16384x16384, .f32⟩
  | 10 => ⟨S2x16x128x16384, .f32⟩
  | 11 => ⟨S2x16384x16x128, .f32⟩
  | 12 => ⟨S2x16384x2048, .f32⟩
  | 13 => ⟨S2x16384x2048, .f32⟩
  | 14 => ⟨S2x16384x2048, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_13 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_16 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩

abbrev nD : Nat := 1
abbrev τ : Topo := Topo.v7x

variable {F : FTy → Type} [FloatOps F]
-- ==== HyenaIn.lean ====
abbrev S2x16384x2048 : Shape := ⟨3, ![2, 16384, 2048]⟩
abbrev S2048 : Shape := ⟨1, ![2048]⟩
abbrev S2048x6144 : Shape := ⟨2, ![2048, 6144]⟩
abbrev S32768x2048 : Shape := ⟨2, ![32768, 2048]⟩
abbrev S1x2048 : Shape := ⟨2, ![1, 2048]⟩
abbrev S32768x6144 : Shape := ⟨2, ![32768, 6144]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6144, .f32⟩
  | .hbm, ⟨3, _⟩ => ⟨S32768x2048, .f32⟩
  | .hbm, ⟨4, _⟩ => ⟨S2048x6144, .bf16⟩
  | .hbm, ⟨5, _⟩ => ⟨S1x2048, .f32⟩
  | .hbm, ⟨6, _⟩ => ⟨S32768x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyenaInRefIdeal.lean ====
abbrev S2x16384x2048 : Shape := ⟨3, ![2, 16384, 2048]⟩
abbrev S2048 : Shape := ⟨1, ![2048]⟩
abbrev S2048x6144 : Shape := ⟨2, ![2048, 6144]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6144 : Shape := ⟨3, ![2, 16384, 6144]⟩
abbrev S32768x6144 : Shape := ⟨2, ![32768, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6144, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x6144, .f32⟩
  | .hbm, ⟨20, _⟩ => ⟨S32768x6144, .f32⟩
  | .hbm, ⟨21, _⟩ => ⟨S32768x6144, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== HyenaOut.lean ====
abbrev S2x16384x2048 : Shape := ⟨3, ![2, 16384, 2048]⟩
abbrev S2048x2048 : Shape := ⟨2, ![2048, 2048]⟩
abbrev S32768x2048 : Shape := ⟨2, ![32768, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .bf16⟩
  | .hbm, ⟨2, _⟩ => ⟨S2048x2048, .f32⟩
  | .hbm, ⟨3, _⟩ => ⟨S32768x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyenaOutRefIdeal.lean ====
abbrev S2x16384x2048 : Shape := ⟨3, ![2, 16384, 2048]⟩
abbrev S2048x2048 : Shape := ⟨2, ![2048, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .bf16⟩
  | .hbm, ⟨2, _⟩ => ⟨S2048x2048, .f32⟩
  | .hbm, ⟨3, _⟩ => ⟨S2x16384x2048, .f32⟩
  | .hbm, ⟨4, _⟩ => ⟨S2x16384x2048, .f32⟩
  | .hbm, ⟨5, _⟩ => ⟨S2x16384x2048, .f32⟩
  | .hbm, ⟨6, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Combine.lean ====
abbrev S2x16384x2048 : Shape := ⟨3, ![2, 16384, 2048]⟩
abbrev S65792x2048 : Shape := ⟨2, ![65792, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S65792x2048, .f32⟩
  | .hbm, ⟨2, _⟩ => ⟨S2048, .f32⟩
  | .hbm, ⟨3, _⟩ => ⟨S32768x2048, .f32⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineIdeal.lean ====
abbrev S2x16384x2048 : Shape := ⟨3, ![2, 16384, 2048]⟩
abbrev S65792x2048 : Shape := ⟨2, ![65792, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S65792x2048, .f32⟩
  | .hbm, ⟨2, _⟩ => ⟨S2048, .f32⟩
  | .hbm, ⟨3, _⟩ => ⟨S32768x2048, .f32⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineRefIdeal.lean ====
abbrev S2x16384x2048 : Shape := ⟨3, ![2, 16384, 2048]⟩
abbrev S65792x2048 : Shape := ⟨2, ![65792, 2048]⟩
abbrev S2048 : Shape := ⟨1, ![2048]⟩
abbrev S65536x2048 : Shape := ⟨2, ![65536, 2048]⟩
abbrev S2x2x16384x2048 : Shape := ⟨4, ![2, 2, 16384, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S65792x2048, .f32⟩
  | .hbm, ⟨2, _⟩ => ⟨S2048, .f32⟩
  | .hbm, ⟨3, _⟩ => ⟨S65536x2048, .f32⟩
  | .hbm, ⟨4, _⟩ => ⟨S2x2x16384x2048, .f32⟩
  | .hbm, ⟨5, _⟩ => ⟨S_, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== HyenaConv.lean ====
abbrev S2x16384x6144 : Shape := ⟨3, ![2, 16384, 6144]⟩
abbrev S3x6144 : Shape := ⟨2, ![3, 6144]⟩
abbrev S6144 : Shape := ⟨1, ![6144]⟩
abbrev S1x6144 : Shape := ⟨2, ![1, 6144]⟩
abbrev S2x16384x2048 : Shape := ⟨3, ![2, 16384, 2048]⟩
abbrev S1x256x6144 : Shape := ⟨3, ![1, 256, 6144]⟩
abbrev S1x16x6144 : Shape := ⟨3, ![1, 16, 6144]⟩
abbrev S1x256x2048 : Shape := ⟨3, ![1, 256, 2048]⟩
abbrev S256x2048 : Shape := ⟨2, ![256, 2048]⟩
abbrev S1x1x2048 : Shape := ⟨3, ![1, 1, 2048]⟩
abbrev S1x2048 : Shape := ⟨2, ![1, 2048]⟩
abbrev S3x2048 : Shape := ⟨2, ![3, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x16384x6144, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S2x16384x2048, .bf16⟩
  | .hbm, ⟨5, _⟩ => ⟨S2x16384x2048, .bf16⟩
  | .hbm, ⟨6, _⟩ => ⟨S2x16384x2048, .bf16⟩
  | .local _ .vmem, ⟨0, _⟩ => ⟨S1x256x6144, .bf16⟩
  | .local _ .vmem, ⟨1, _⟩ => ⟨S1x256x6144, .bf16⟩
  | .local _ .vmem, ⟨2, _⟩ => ⟨S1x16x6144, .bf16⟩
  | .local _ .vmem, ⟨3, _⟩ => ⟨S1x16x6144, .bf16⟩
  | .local _ .vmem, ⟨4, _⟩ => ⟨S1x16x6144, .bf16⟩
  | .local _ .vmem, ⟨5, _⟩ => ⟨S1x16x6144, .bf16⟩
  | .local _ .vmem, ⟨6, _⟩ => ⟨S3x6144, .f32⟩
  | .local _ .vmem, ⟨7, _⟩ => ⟨S1x6144, .f32⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | _, _ => ⟨S2x16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HyenaConvRefIdeal.lean ====
abbrev S2x16384x6144 : Shape := ⟨3, ![2, 16384, 6144]⟩
abbrev S3x6144 : Shape := ⟨2, ![3, 6144]⟩
abbrev S6144 : Shape := ⟨1, ![6144]⟩
abbrev S_ : Shape := ⟨0, ![]⟩
abbrev S2x16386x6144 : Shape := ⟨3, ![2, 16386, 6144]⟩
abbrev S1x6144 : Shape := ⟨2, ![1, 6144]⟩
abbrev S1x1x6144 : Shape := ⟨3, ![1, 1, 6144]⟩
abbrev S2x16384x2048 : Shape := ⟨3, ![2, 16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x6144, .bf16⟩
  | .hbm, ⟨1, _⟩ => ⟨S3x6144, .f32⟩
  | .hbm, ⟨2, _⟩ => ⟨S6144, .f32⟩
  | .hbm, ⟨3, _⟩ => ⟨S2x16384x6144, .f32⟩
  | .hbm, ⟨4, _⟩ => ⟨S_, .i32⟩
  | .hbm, ⟨5, _⟩ => ⟨S_, .f32⟩
  | .hbm, ⟨6, _⟩ => ⟨S2x16386x6144, .f32⟩
  | .hbm, ⟨7, _⟩ => ⟨S2x16384x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S2x16384x6144, .f32⟩
  | .hbm, ⟨12, _⟩ => ⟨S2x16384x6144, .f32⟩
  | .hbm, ⟨13, _⟩ => ⟨S2x16384x6144, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S2x16384x6144, .f32⟩
  | .hbm, ⟨18, _⟩ => ⟨S2x16384x6144, .f32⟩
  | .hbm, ⟨19, _⟩ => ⟨S2x16384x6144, .f32⟩
  | .hbm, ⟨20, _⟩ => ⟨S2x16384x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S2x16384x6144, .f32⟩
  | .hbm, ⟨25, _⟩ => ⟨S2x16384x6144, .f32⟩
  | .hbm, ⟨26, _⟩ => ⟨S2x16384x6144, .f32⟩
  | .hbm, ⟨27, _⟩ => ⟨S1x1x6144, .f32⟩
  | .hbm, ⟨28, _⟩ => ⟨S2x16384x6144, .f32⟩
  | .hbm, ⟨29, _⟩ => ⟨S2x16384x6144, .f32⟩
  | .hbm, ⟨30, _⟩ => ⟨S2x16384x2048, .f32⟩
  | .hbm, ⟨31, _⟩ => ⟨S2x16384x2048, .f32⟩
  | .hbm, ⟨32, _⟩ => ⟨S2x16384x2048, .f32⟩
  | .hbm, ⟨33, _⟩ => ⟨S2x16384x2048, .bf16⟩
  | .hbm, ⟨34, _⟩ => ⟨S2x16384x2048, .bf16⟩
  | .hbm, ⟨35, _⟩ => ⟨S2x16384x2048, .bf16⟩
  | _, _ => ⟨S2x16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== CombineSample.lean ====
abbrev S4x2048x2048 : Shape := ⟨3, ![4, 2048, 2048]⟩
abbrev S16640x2048 : Shape := ⟨2, ![16640, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S16640x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineSampleRefIdeal.lean ====
abbrev S4x2048x2048 : Shape := ⟨3, ![4, 2048, 2048]⟩
abbrev S16640x2048 : Shape := ⟨2, ![16640, 2048]⟩
abbrev S2048 : Shape := ⟨1, ![2048]⟩
abbrev S16384x2048 : Shape := ⟨2, ![16384, 2048]⟩
abbrev S2x4x2048x2048 : Shape := ⟨4, ![2, 4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16640x2048, .f32⟩
  | .hbm, ⟨2, _⟩ => ⟨S2048, .f32⟩
  | .hbm, ⟨3, _⟩ => ⟨S16384x2048, .f32⟩
  | .hbm, ⟨4, _⟩ => ⟨S2x4x2048x2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== CombineFirst.lean ====
abbrev S2x16384x2048 : Shape := ⟨3, ![2, 16384, 2048]⟩
abbrev S65792x2048 : Shape := ⟨2, ![65792, 2048]⟩
abbrev S32768x2048 : Shape := ⟨2, ![32768, 2048]⟩
abbrev S_ : Shape := ⟨0, ![]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S65792x2048, .f32⟩
  | .hbm, ⟨2, _⟩ => ⟨S32768x2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineFirstRefIdeal.lean ====
abbrev S2x16384x2048 : Shape := ⟨3, ![2, 16384, 2048]⟩
abbrev S65792x2048 : Shape := ⟨2, ![65792, 2048]⟩
abbrev S65536x2048 : Shape := ⟨2, ![65536, 2048]⟩
abbrev S2x2x16384x2048 : Shape := ⟨4, ![2, 2, 16384, 2048]⟩
abbrev S_ : Shape := ⟨0, ![]⟩
abbrev S32768x2048 : Shape := ⟨2, ![32768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S65792x2048, .f32⟩
  | .hbm, ⟨2, _⟩ => ⟨S65536x2048, .f32⟩
  | .hbm, ⟨3, _⟩ => ⟨S2x2x16384x2048, .f32⟩
  | .hbm, ⟨4, _⟩ => ⟨S_, .f32⟩
  | .hbm, ⟨5, _⟩ => ⟨S2x16384x2048, .f32⟩
  | .hbm, ⟨6, _⟩ => ⟨S2x16384x2048, .f32⟩
  | .hbm, ⟨7, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Router.lean ====
abbrev S2x16384x2048 : Shape := ⟨3, ![2, 16384, 2048]⟩
abbrev S2048 : Shape := ⟨1, ![2048]⟩
abbrev S2048x8 : Shape := ⟨2, ![2048, 8]⟩
abbrev S2048x64 : Shape := ⟨2, ![2048, 64]⟩
abbrev S32768x2048 : Shape := ⟨2, ![32768, 2048]⟩
abbrev S_ : Shape := ⟨0, ![]⟩
abbrev S2048x56 : Shape := ⟨2, ![2048, 56]⟩
abbrev S2048x128 : Shape := ⟨2, ![2048, 128]⟩
abbrev S1x2048 : Shape := ⟨2, ![1, 2048]⟩
abbrev S32768x128 : Shape := ⟨2, ![32768, 128]⟩
abbrev S32768x1024 : Shape := ⟨2, ![32768, 1024]⟩
abbrev S512x2048 : Shape := ⟨2, ![512, 2048]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8, .f32⟩
  | .hbm, ⟨3, _⟩ => ⟨S2048x64, .f32⟩
  | .hbm, ⟨4, _⟩ => ⟨S32768x2048, .f32⟩
  | .hbm, ⟨5, _⟩ => ⟨S_, .f32⟩
  | .hbm, ⟨6, _⟩ => ⟨S2048x56, .f32⟩
  | .hbm, ⟨7, _⟩ => ⟨S2048x128, .f32⟩
  | .hbm, ⟨8, _⟩ => ⟨S2048x128, .bf16⟩
  | .hbm, ⟨9, _⟩ => ⟨S1x2048, .f32⟩
  | .hbm, ⟨10, _⟩ => ⟨S32768x128, .f32⟩
  | .hbm, ⟨11, _⟩ => ⟨S32768x1024, .i32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x128, .f32⟩
  | .local _ .vmem, ⟨5, _⟩ => ⟨S512x128, .f32⟩
  | .local _ .vmem, ⟨6, _⟩ => ⟨S512x1024, .i32⟩
  | .local _ .vmem, ⟨7, _⟩ => ⟨S512x1024, .i32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterIdeal.lean ====
abbrev S2x16384x2048 : Shape := ⟨3, ![2, 16384, 2048]⟩
abbrev S2048 : Shape := ⟨1, ![2048]⟩
abbrev S2048x8 : Shape := ⟨2, ![2048, 8]⟩
abbrev S2048x64 : Shape := ⟨2, ![2048, 64]⟩
abbrev S32768x2048 : Shape := ⟨2, ![32768, 2048]⟩
abbrev S_ : Shape := ⟨0, ![]⟩
abbrev S2048x56 : Shape := ⟨2, ![2048, 56]⟩
abbrev S2048x128 : Shape := ⟨2, ![2048, 128]⟩
abbrev S1x2048 : Shape := ⟨2, ![1, 2048]⟩
abbrev S32768x128 : Shape := ⟨2, ![32768, 128]⟩
abbrev S32768x2x1024 : Shape := ⟨3, ![32768, 2, 1024]⟩
abbrev S32768x1x1024 : Shape := ⟨3, ![32768, 1, 1024]⟩
abbrev S32768x1024 : Shape := ⟨2, ![32768, 1024]⟩
abbrev S512x2048 : Shape := ⟨2, ![512, 2048]⟩
abbrev S512x128 : Shape := ⟨2, ![512, 128]⟩
abbrev S512x1024 : Shape := ⟨2, ![512, 1024]⟩
abbrev S512x2x1024 : Shape := ⟨3, ![512, 2, 1024]⟩
abbrev S512x1x1024 : Shape := ⟨3, ![512, 1, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8, .f32⟩
  | .hbm, ⟨3, _⟩ => ⟨S2048x64, .f32⟩
  | .hbm, ⟨4, _⟩ => ⟨S32768x2048, .f32⟩
  | .hbm, ⟨5, _⟩ => ⟨S_, .f32⟩
  | .hbm, ⟨6, _⟩ => ⟨S2048x56, .f32⟩
  | .hbm, ⟨7, _⟩ => ⟨S2048x128, .f32⟩
  | .hbm, ⟨8, _⟩ => ⟨S2048x128, .bf16⟩
  | .hbm, ⟨9, _⟩ => ⟨S1x2048, .f32⟩
  | .hbm, ⟨10, _⟩ => ⟨S32768x128, .f32⟩
  | .hbm, ⟨11, _⟩ => ⟨S32768x2x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x128, .f32⟩
  | .local _ .vmem, ⟨5, _⟩ => ⟨S512x128, .f32⟩
  | .local _ .vmem, ⟨6, _⟩ => ⟨S512x2x1024, .bf16⟩
  | .local _ .vmem, ⟨7, _⟩ => ⟨S512x2x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S2x16384x2048 : Shape := ⟨3, ![2, 16384, 2048]⟩
abbrev S2048 : Shape := ⟨1, ![2048]⟩
abbrev S2048x8 : Shape := ⟨2, ![2048, 8]⟩
abbrev S2048x64 : Shape := ⟨2, ![2048, 64]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩
abbrev S32768x8 : Shape := ⟨2, ![32768, 8]⟩
abbrev S32768x64 : Shape := ⟨2, ![32768, 64]⟩
abbrev S32768x56 : Shape := ⟨2, ![32768, 56]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8, .f32⟩
  | .hbm, ⟨3, _⟩ => ⟨S2048x64, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S32768x2048, .f32⟩
  | .hbm, ⟨21, _⟩ => ⟨S32768x8, .f32⟩
  | .hbm, ⟨22, _⟩ => ⟨S32768x64, .f32⟩
  | .hbm, ⟨23, _⟩ => ⟨S_, .f32⟩
  | .hbm, ⟨24, _⟩ => ⟨S32768x56, .f32⟩
  | .hbm, ⟨25, _⟩ => ⟨S32768x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.RealLemmas.lean ====
/- Extended reals that are real numbers, and the operations that keep them so. -/
module

public import Idealize.ShloMosaic.PureOps.Ideal
public import Idealize.ShloMosaic.Lib.Pointwise

@[expose] public section

noncomputable section

open Idealize.ShloMosaic
open scoped BigOperators

namespace Cert.RealLemmas

/-- The extended real is a real number. -/
def IsR (x : EReal) : Prop := ∃ r : ℝ, x = (r : EReal)

/-- A real number, as an extended real, is real. -/
theorem IsR.coe (r : ℝ) : IsR (r : EReal) := ⟨r, rfl⟩
/-- A real extended real is its real part. -/
theorem IsR.eq {x : EReal} (h : IsR x) : x = (x.toReal : EReal) := by
  obtain ⟨r, rfl⟩ := h; simp
/-- What lies strictly between the infinities is real. -/
theorem IsR.of_ne {x : EReal} (h1 : x ≠ ⊤) (h2 : x ≠ ⊥) : IsR x := ⟨x.toReal, (EReal.coe_toReal h1 h2).symm⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.neg {x : EReal} (hx : IsR x) : IsR (-x) := by
  obtain ⟨a, rfl⟩ := hx; exact ⟨-a, (EReal.coe_neg a).symm⟩
theorem IsR.max {x y : EReal} (hx : IsR x) (hy : IsR y) : IsR (max x y) := by
  rcases max_choice x y with h | h <;> rw [h] <;> assumption
theorem IsR.exp {x : EReal} (hx : IsR x) : IsR (Ideal.exp x) := by
  obtain ⟨a, rfl⟩ := hx; exact ⟨_, Ideal.exp_coe a⟩
theorem IsR.cos {x : EReal} (hx : IsR x) : IsR (Ideal.cos x) := by
  obtain ⟨a, rfl⟩ := hx; exact ⟨_, Ideal.cos_coe a⟩
theorem IsR.sin {x : EReal} (hx : IsR x) : IsR (Ideal.sin x) := by
  obtain ⟨a, rfl⟩ := hx; exact ⟨_, Ideal.sin_coe a⟩
/-- A quotient by a nonzero real is real. -/
theorem IsR.div {x y : EReal} (hx : IsR x) (hy : IsR y) (h : y ≠ 0) : IsR (Ideal.div x y) := by
  obtain ⟨b, rfl⟩ := hy
  have hb : b ≠ 0 := fun e => h (by rw [e]; rfl)
  rw [Ideal.div_coe hb]; exact hx.mul (IsR.coe _)
/-- The reciprocal square root of a positive real is real. -/
theorem IsR.rsqrt {x : EReal} (hx : IsR x) (h : 0 < x) : IsR (Ideal.rsqrt x) := by
  obtain ⟨a, rfl⟩ := hx
  have ha : 0 < a := by exact_mod_cast h
  rw [Ideal.rsqrt_coe, if_neg (not_lt.mpr ha.le), if_neg ha.ne']; exact IsR.coe _
/-- A power of reals is real. -/
theorem IsR.pow {x y : EReal} (hx : IsR x) (hy : IsR y) : IsR (Ideal.pow x y) := by
  obtain ⟨a, rfl⟩ := hx; obtain ⟨b, rfl⟩ := hy; exact ⟨_, Ideal.pow_coe_coe a b⟩
/-- A finite sum of reals is real. -/
theorem IsR.sum {ι : Type} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih

/-- The sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals (at least one) is real. -/
theorem IsR.fold_max {n : ℕ} (hn : 0 < n) (f : Fin n → EReal) (h : ∀ j, IsR (f j)) :
    IsR (Finset.univ.fold Max.max ⊥ f) := by
  apply IsR.of_ne
  · have : Finset.univ.fold Max.max ⊥ f < ⊤ := by
      rw [Finset.fold_max_lt]
      exact ⟨bot_lt_top, fun x _ => by obtain ⟨r, hr⟩ := h x; rw [hr]; exact EReal.coe_lt_top r⟩
    exact this.ne
  · have : ⊥ < Finset.univ.fold Max.max ⊥ f := by
      rw [Finset.lt_fold_max]
      exact Or.inr ⟨⟨0, hn⟩, Finset.mem_univ _, by obtain ⟨r, hr⟩ := h ⟨0, hn⟩; rw [hr]; exact EReal.bot_lt_coe r⟩
    exact this.ne'

/-- A quotient of real numbers, the divisor not zero. -/
theorem div_coe_coe (a : ℝ) {b : ℝ} (h : b ≠ 0) : Ideal.div (a : EReal) (b : EReal) = ((a / b : ℝ) : EReal) := by
  rw [Ideal.div_coe h, ← EReal.coe_mul]; congr 1; ring

/-- The binary32 pattern of minus infinity. -/
theorem ofBits_neg_inf : Ideal.ofBits .f32 0xFF800000#32 = ⊥ := by simp [Ideal.ofBits, Ideal.ieee]
/-- The binary32 pattern of infinity. -/
theorem ofBits_inf : Ideal.ofBits .f32 0x7F800000#32 = ⊤ := by simp [Ideal.ofBits, Ideal.ieee]
/-- The pattern of the start of the running maximum is a real number. -/
theorem isR_start : IsR (Ideal.ofBits .f32 0xF149F2CA#32) := by
  simp only [Ideal.ofBits, Ideal.ieee]; norm_num; exact ⟨_, by norm_cast⟩
/-- The pattern of the attention scale is a real number. -/
theorem isR_scale : IsR (Ideal.ofBits .f32 0x3D93CD3A#32) := by
  simp only [Ideal.ofBits, Ideal.ieee]; norm_num; exact ⟨_, by norm_cast⟩

end Cert.RealLemmas

end
-- ==== Proof.Pre.lean ====
/- The precondition, read back: every weight but the output's holds real numbers. -/
module

public import proofs.«01_k».proof.Defs
public import proofs.«01_k».proof.Proof.RealLemmas
public import Idealize.ShloMosaic.Lib.ReduceAll
public import Idealize.ShloMosaic.Lib.ValueIdxCore

@[expose] public section

noncomputable section

open Idealize.ShloMosaic

namespace Cert.Pre_finite_args

open Cert.RealLemmas

/-- The shape relations the predicate's operations take. -/
instance facts : Facts where
  bcast_S_S2048 := by decide
  reducesTo_S2048_S_d0 := by decide
  h_S_ := by decide
  bcast_S_S2048x1088 := by decide
  reducesTo_S2048x1088_S_d0_1 := by decide
  bcast_S_S512 := by decide
  reducesTo_S512_S_d0 := by decide
  bcast_S_S512x3072 := by decide
  reducesTo_S512x3072_S_d0_1 := by decide
  bcast_S_S512x4096 := by decide
  reducesTo_S512x4096_S_d0_1 := by decide

/-- An entry whose absolute value is below infinity is real. -/
theorem isR_of_lt (x : EReal) (h : FloatOps.cmpf (F := Ideal) (φ := .f32) .olt (FloatOps.absf (F := Ideal) (φ := .f32) x) (Ideal.ofBits .f32 0x7F800000#32) = 1#1) :
    IsR x := by
  rw [ofBits_inf] at h
  refine IsR.of_ne ?_ ?_
  · rintro rfl; revert h; simp [FloatOps.cmpf, FloatOps.absf, Ideal.cmp]
  · rintro rfl; revert h; simp [FloatOps.cmpf, FloatOps.absf, Ideal.cmp]

/-- An array every entry of which passes the test is real throughout. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : IsR (x i) :=
  isR_of_lt _ (Host.reduce_andi_all _ _ _ _ j e i)

/-- What the predicate says of the arguments. -/
theorem args_real (a0 : FVec Ideal S2x16384x2048 .f32) (a1 : FVec Ideal S2048 .f32) (a2 : FVec Ideal S2048x1088 .f32) (a3 : FVec Ideal S512 .f32)
    (a4 : FVec Ideal S512x3072 .f32) (a5 : FVec Ideal S512 .f32) (a6 : FVec Ideal S512x4096 .f32) (a7 : FVec Ideal S2048x2048 .f32)
    (h : fn (F := Ideal) a0 a1 a2 a3 a4 a5 a6 a7 = fun _ => 1#1) :
    (∀ i, IsR (a1 i)) ∧ (∀ i, IsR (a2 i)) ∧ (∀ i, IsR (a3 i)) ∧ (∀ i, IsR (a4 i)) ∧ (∀ i, IsR (a5 i)) ∧ (∀ i, IsR (a6 i)) := by
  have h := congrFun h (fun a => a.elim0)
  dsimp only [fn, fn_part1, andi] at h
  simp only [IntOp.andi_eq_one] at h
  obtain ⟨⟨⟨⟨⟨h1, h2⟩, h3⟩, h4⟩, h5⟩, h6⟩ := h
  exact ⟨all_real _ _ _ _ _ h1, all_real _ _ _ _ _ h2, all_real _ _ _ _ _ h3, all_real _ _ _ _ _ h4,
    all_real _ _ _ _ _ h5, all_real _ _ _ _ _ h6⟩

end Cert.Pre_finite_args

end
-- ==== Proof.Reg03.lean ====
/- The first and the last call: what each leaves in its output array, from what its operand arrays hold when it starts. -/
module

public import proofs.«01_k».proof.Proof.Gen.KernelIdeal.Frame
public import proofs.«01_k».proof.Proof.RealLemmas
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe
open Idealize.ShloMosaic.Pipeline (Dat)
open scoped BigOperators

namespace Cert.KernelIdeal.Reg

open Cert.KernelIdeal Cert.KernelIdeal.Gen Cert.RealLemmas

variable (V : (c : Dev nD) → (b : Ref sig .tc) → Buf (Elt Ideal) ((c : Thread nD τ).loc b))

/-- The windows' index maps of the first call. -/
theorem idx0 : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

/-- The windows' index maps of the last call. -/
theorem idx3 : ∀ t : Fin cfg3.N,
    win3_0.index t = ![t.val / 2, 0] ∧ win3_1.index t = ![0, t.val % 2] ∧ win3_2.index t = ![t.val / 2, t.val % 2]
    ∧ win3_3.index t = ![t.val / 2, t.val % 2] :=
  (by decide +kernel : ∀ t : Fin grid3.N, _)

/-- A row over its root mean square, times the gain. -/
def rms (n : ℕ) (d : EReal) (X : ℕ → EReal) (g : ℕ → EReal) (k : ℕ) : EReal :=
  X k * Ideal.rsqrt (Ideal.div (∑ j : Fin n, X j.val * X j.val) d + Ideal.ofBits .f32 0x358637BD#32) * g k

/-- What the last call leaves: the residual plus the product. -/
theorem final3 (A W R : ℕ → ℕ → EReal) (c : Dev nD)
    (hA : ∀ i : S32768x2048.Idx, V c main_v53 i = A (i 0).val (i 1).val)
    (hW : ∀ i : S2048x2048.Idx, V c main_v54 i = W (i 0).val (i 1).val)
    (hR : ∀ i : S32768x2048.Idx, V c main_v0 i = R (i 0).val (i 1).val) :
    (dat3 V c).arrAt 3 cfg3.N = fun i : S32768x2048.Idx =>
      R (i 0).val (i 1).val + ∑ k : Fin 2048, A (i 0).val k.val * W k.val (i 1).val := by
  refine (dat3 V c).arrAt_eq_of_covers 3 _ (by decide +kernel) fun t _ y => ?_
  blk_simp
  rw [after3_3]
  unfold out3_3
  frame_out
  pointwise [k3_pay1]
  blk_simp [iblk3]
  refine congrArg₂ (· + ·) ((hR _).trans ?_)
    (Finset.sum_congr rfl fun k _ => congrArg₂ (· * ·) ((hA _).trans ?_) ((hW _).trans ?_)) <;> blk_simp [idx3 t] <;> rfl

/-- What the first call leaves: the normalized rows times the weights. -/
theorem final0 (X W : ℕ → ℕ → EReal) (g : ℕ → EReal) (c : Dev nD)
    (hX : ∀ i : S32768x2048.Idx, V c main_v0 i = X (i 0).val (i 1).val)
    (hg : ∀ i : S1x2048.Idx, V c main_v8 i = g (i 1).val)
    (hW : ∀ i : S2048x1152.Idx, V c main_v7 i = W (i 0).val (i 1).val) :
    (dat0 V c).arrAt 3 cfg0.N = fun i : S32768x1152.Idx =>
      ∑ k : Fin 2048, rms 2048 (Ideal.ofBits .f32 0x45000000#32) (X (i 0).val) g k.val * W k.val (i 1).val := by
  refine (dat0 V c).arrAt_eq_of_covers 3 _ (by decide +kernel) fun t _ y => ?_
  blk_simp
  rw [after0_3]
  unfold outsAt0 out0_A_3
  frame_out
  have e0 : ∀ k : Fin 2048, iblk0 V c 0 t (ix2 (y 0) k) = X (t.val * 512 + (y 0).val) k.val := fun k => by
    blk_simp [iblk0]
    refine (hX _).trans ?_
    blk_simp [idx0 t]
  have e1 : ∀ k : Fin 2048, iblk0 V c 1 t (ix2 0 k) = g k.val := fun k => by
    blk_simp [iblk0]
    refine (hg _).trans ?_
    blk_simp [idx0 t]
  have e2 : ∀ k : Fin 2048, iblk0 V c 2 t (ix2 k (y 1)) = W k.val (y 1).val := fun k => by
    blk_simp [iblk0]
    refine (hW _).trans ?_
    blk_simp [idx0 t]
  pointwise [k0_pay1, k0_pay2]
  simp only [e0, e1, e2]
  blk_simp [idx0 t]
  rfl

end Cert.KernelIdeal.Reg

end
-- ==== Proof.Qkv.lean ====
/- The second call: the query, key and value slabs of one block of rows. -/
module

public import proofs.«01_k».proof.Proof.Gen.KernelIdeal.Frame
public import proofs.«01_k».proof.Proof.Reg03
public import Idealize.ShloMosaic.Lib.Pipeline.ValueKit
public import Idealize.ShloMosaic.Lib.Pointwise

@[expose] public section

set_option maxRecDepth 16384

noncomputable section

open Idealize.ShloMosaic Idealize.ShloMosaic.TcCoe
open Idealize.ShloMosaic.Pipeline (Dat)
open scoped BigOperators

namespace Cert.KernelIdeal.Reg

open Cert.KernelIdeal Cert.KernelIdeal.Gen Cert.RealLemmas

section
variable {F : FTy → Type} [FloatOps F]
/-- The query's first 128 lanes of one head. -/
abbrev QL (q : FVec F S256x512 .bf16) (w : Vec F S512x384 .bf16) : FVec F S1x1x256x128 .bf16 := k1_pay15 q w
/-- The query's last 128 lanes of one head: the rotated part. -/
def QH (q : FVec F S256x512 .bf16) (cq sq : FVec F S256x128 .f32) (w : Vec F S512x384 .bf16) : FVec F S1x1x256x128 .bf16 :=
  shapeCast S1x1x256x128 (truncf .bf16
    (addf (mulf (extractStridedSlice S256x128 ![0, 128] (k1_pay14 q w) slices_S256x384_o0_128_S256x128) cq)
      (mulf (extractStridedSlice S256x128 ![0, 256] (k1_pay14 q w) slices_S256x384_o0_256_S256x128) sq)) bitsLt_bf16_f32)
    shapeCasts_S256x128_S1x1x256x128
/-- The key's first 128 lanes of one head. -/
def KL (k : FVec F S256x512 .bf16) (w : Vec F S512x256 .bf16) : FVec F S1x1x256x128 .bf16 := k1_pay19 (k1_pay18 k w)
/-- A block written under two unit axes. -/
abbrev UP (k : FVec F S256x128 .bf16) : FVec F S1x1x256x128 .bf16 := k1_pay1 k
/-- The value's first 128 lanes of one head. -/
def VL (k : FVec F S256x512 .bf16) (w : Vec F S512x256 .bf16) : FVec F S1x1x256x128 .bf16 := k1_pay21 (k1_pay17 k w)
end

/-- A lane of the 128 is a lane of the 384. -/
theorem lt3 (x : S1x1x256x128.Idx) : (x 3).val < 128 := (x 3).isLt

theorem QL_at (q : FVec Ideal S256x512 .bf16) (w : Vec Ideal S512x384 .bf16) (x : S1x1x256x128.Idx) :
    QL q w x = (∑ k : Fin 512, q (ix2 (x 2) k) * w (ix2 k ⟨(x 3).val, by have := lt3 x; omega⟩))
      * Ideal.ofBits .f32 0x3D93CD3A#32 := by
  pointwise [k1_pay15, k1_pay14]
theorem QH_at (q : FVec Ideal S256x512 .bf16) (cq sq : FVec Ideal S256x128 .f32) (w : Vec Ideal S512x384 .bf16)
    (x : S1x1x256x128.Idx) :
    QH q cq sq w x
      = (∑ k : Fin 512, q (ix2 (x 2) k) * w (ix2 k ⟨128 + (x 3).val, by have := lt3 x; omega⟩)) * cq (ix2 (x 2) (x 3))
        + (∑ k : Fin 512, q (ix2 (x 2) k) * w (ix2 k ⟨256 + (x 3).val, by have := lt3 x; omega⟩)) * sq (ix2 (x 2) (x 3)) := by
  pointwise [QH, k1_pay14]
theorem KL_at (q : FVec Ideal S256x512 .bf16) (w : Vec Ideal S512x256 .bf16) (x : S1x1x256x128.Idx) :
    KL q w x = ∑ k : Fin 512, q (ix2 (x 2) k) * w (ix2 k ⟨(x 3).val, by have := lt3 x; omega⟩) := by
  pointwise [KL, k1_pay17, k1_pay18, k1_pay19]
theorem VL_at (q : FVec Ideal S256x512 .bf16) (w : Vec Ideal S512x256 .bf16) (x : S1x1x256x128.Idx) :
    VL q w x = ∑ k : Fin 512, q (ix2 (x 2) k) * w (ix2 k ⟨128 + (x 3).val, by have := lt3 x; omega⟩) := by
  pointwise [VL, k1_pay17, k1_pay21]
theorem UP_at (q : FVec Ideal S256x128 .bf16) (x : S1x1x256x128.Idx) :
    UP q x = q (ix2 (x 2) (x 3)) := by
  pointwise [k1_pay1]
/-- The lane that sums the weights: one at its first lane, zero after it. -/
theorem vhi_at (r : Fin 256) (e : Fin 128) :
    k1_pay11 (F := Ideal) (ix2 r e) = if e.val = 0 then 1 else 0 := by
  have key : ∀ e : Fin 128, IntOp.cmpi CmpIPredicate.eq (BitVec.ofNat 32 e.val) 0#32 = if e.val = 0 then 1#1 else 0#1 := by
    decide +kernel
  pointwise [k1_pay11]
  rw [key]
  by_cases h : e.val = 0 <;> simp [h, Scalar.select]
theorem khi_at (x0 : Vec Ideal S256x1152 .f32) (x7 x8 : Vec Ideal S256x128 .f32) (r : Fin 256) (e : Fin 128) :
    k1_pay10 (k1_pay8 x0 x7) (k1_pay9 x0 x8) (ix2 r e)
      = x0 (ix2 r ⟨1024 + e.val, by omega⟩) * x7 (ix2 r e)
        + x0 (ix2 r ⟨1024 + (e.val + 128 - 64) % 128, by omega⟩) * x8 (ix2 r e) := by
  pointwise [k1_pay10, k1_pay8, k1_pay9, k1_pay7, k1_pay4]
theorem cqn_at (x0 : Vec Ideal S256x1152 .f32) (g : Vec Ideal S1x512 .f32) (X : ℕ → ℕ → EReal) (G : ℕ → EReal)
    (h0 : ∀ r j, x0 (ix2 r j) = X r.val j.val) (hg : ∀ j, g (ix2 0 j) = G j.val) (r : Fin 256) (e : Fin 512) :
    k1_pay5 x0 g (ix2 r e) = rms 512 (Ideal.ofBits .f32 0x44000000#32) (X r.val) G e.val := by
  pointwise [k1_pay5, k1_pay4]
  simp only [h0, hg]
  rfl
theorem ckvn_at (x0 : Vec Ideal S256x1152 .f32) (g : Vec Ideal S1x512 .f32) (X : ℕ → ℕ → EReal) (G : ℕ → EReal)
    (h0 : ∀ r j, x0 (ix2 r j) = X r.val j.val) (hg : ∀ j, g (ix2 0 j) = G j.val) (r : Fin 256) (e : Fin 512) :
    k1_pay6 x0 g (ix2 r e) = rms 512 (Ideal.ofBits .f32 0x44000000#32) (fun j => X r.val (512 + j)) G e.val := by
  pointwise [k1_pay6, k1_pay4]
  simp only [h0, hg]
  rfl

/-- The lower half of one head's queries, as stored. -/
theorem qlo_piece (N W : ℕ → ℕ → EReal) (q : FVec Ideal S256x512 .bf16) (w : Vec Ideal S512x6144 .bf16)
    (hq : ∀ r k, q (ix2 r k) = N r.val k.val) (hw : ∀ k j, w (ix2 k j) = W k.val j.val) (o h r e : ℕ)
    (hb) (x : S1x1x256x128.Idx) (ho : o = 384 * h) (hr : r = (x 2).val) (he : e = (x 3).val) :
    QL q (View.ld w (Rect.unit (s := S512x6144) ![0, o] S512x384.size hb)) x
      = (∑ k : Fin 512, N r k.val * W k.val (384 * h + e)) * Ideal.ofBits .f32 0x3D93CD3A#32 := by
  subst ho hr he
  rw [QL_at]
  refine congrArg (· * _) (Finset.sum_congr rfl fun k _ => congrArg₂ (· * ·) (hq _ _) ?_)
  pointwise
  rw [hw]
/-- The upper half of one head's queries, as stored. -/
theorem qhi_piece (N W A B : ℕ → ℕ → EReal) (q : FVec Ideal S256x512 .bf16) (w : Vec Ideal S512x6144 .bf16)
    (cq sq : FVec Ideal S256x128 .f32)
    (hq : ∀ r k, q (ix2 r k) = N r.val k.val) (hw : ∀ k j, w (ix2 k j) = W k.val j.val)
    (hA : ∀ r k, cq (ix2 r k) = A r.val k.val) (hB : ∀ r k, sq (ix2 r k) = B r.val k.val) (o h r e : ℕ)
    (hb) (x : S1x1x256x128.Idx) (ho : o = 384 * h) (hr : r = (x 2).val) (he : e = 128 + (x 3).val) :
    QH q cq sq (View.ld w (Rect.unit (s := S512x6144) ![0, o] S512x384.size hb)) x
      = (∑ k : Fin 512, N r k.val * W k.val (384 * h + e)) * A r (e - 128)
        + (∑ k : Fin 512, N r k.val * W k.val (384 * h + (128 + e))) * B r (e - 128) := by
  subst ho hr he
  have h3 := lt3 x
  rw [QH_at]
  refine congrArg₂ (· + ·)
    (congrArg₂ (· * ·) (Finset.sum_congr rfl fun k _ => congrArg₂ (· * ·) (hq _ _) ?_) ((hA _ _).trans (by simp)))
    (congrArg₂ (· * ·) (Finset.sum_congr rfl fun k _ => congrArg₂ (· * ·) (hq _ _) ?_) ((hB _ _).trans (by simp)))
  · pointwise; rw [hw]
  · pointwise; rw [hw]; refine congrArg (W _) ?_; dsimp only; omega
/-- The lower half of one head's keys, as stored. -/
theorem klo_piece (N W : ℕ → ℕ → EReal) (q : FVec Ideal S256x512 .bf16) (w : Vec Ideal S512x4096 .bf16)
    (hq : ∀ r k, q (ix2 r k) = N r.val k.val) (hw : ∀ k j, w (ix2 k j) = W k.val j.val) (o h r e : ℕ)
    (hb) (x : S1x1x256x128.Idx) (ho : o = 256 * h) (hr : r = (x 2).val) (he : e = (x 3).val) :
    KL q (View.ld w (Rect.unit (s := S512x4096) ![0, o] S512x256.size hb)) x
      = ∑ k : Fin 512, N r k.val * W k.val (256 * h + e) := by
  subst ho hr he
  rw [KL_at]
  refine Finset.sum_congr rfl fun k _ => congrArg₂ (· * ·) (hq _ _) ?_
  pointwise; rw [hw]
/-- One head's values, as stored. -/
theorem vlo_piece (N W : ℕ → ℕ → EReal) (q : FVec Ideal S256x512 .bf16) (w : Vec Ideal S512x4096 .bf16)
    (hq : ∀ r k, q (ix2 r k) = N r.val k.val) (hw : ∀ k j, w (ix2 k j) = W k.val j.val) (o h r e : ℕ)
    (hb) (x : S1x1x256x128.Idx) (ho : o = 256 * h) (hr : r = (x 2).val) (he : e = (x 3).val) :
    VL q (View.ld w (Rect.unit (s := S512x4096) ![0, o] S512x256.size hb)) x
      = ∑ k : Fin 512, N r k.val * W k.val (256 * h + (128 + e)) := by
  subst ho hr he
  rw [VL_at]
  refine Finset.sum_congr rfl fun k _ => congrArg₂ (· * ·) (hq _ _) ?_
  pointwise; rw [hw]
/-- A block stored as it is. -/
theorem up_piece (N : ℕ → ℕ → EReal) (q : FVec Ideal S256x128 .bf16)
    (hq : ∀ r k, q (ix2 r k) = N r.val k.val) (r e : ℕ)
    (x : S1x1x256x128.Idx) (hr : r = (x 2).val) (he : e = 128 + (x 3).val) :
    UP q x = N r (e - 128) := by
  subst hr he
  exact (UP_at _ _).trans ((hq _ _).trans (by simp))

end Cert.KernelIdeal.Reg

end
-- ==== Proof.Qkv2.lean ====
/- The second call: the query, key and value arrays it leaves. -/
module

public import proofs.«01_k».proof.Proof.Gen.KernelIdeal.Frame
public import proofs.«01_k».proof.Proof.Qkv
public import Idealize.ShloMosaic.Lib.Pipeline.ValueKit
public import Idealize.ShloMosaic.Lib.Pointwise

@[expose] public section

set_option maxRecDepth 16384

noncomputable section

open Idealize.ShloMosaic Idealize.ShloMosaic.TcCoe
open Idealize.ShloMosaic.Pipeline (Dat)
open scoped BigOperators

namespace Cert.KernelIdeal.Reg

open Cert.KernelIdeal Cert.KernelIdeal.Gen Cert.RealLemmas

/-- A row of queries: the scaled part without positions, then the rotated part. -/
def qf (N W A B : ℕ → ℕ → EReal) (t r h e : ℕ) : EReal :=
  if e < 128 then (∑ k : Fin 512, N t k.val * W k.val (384 * h + e)) * Ideal.ofBits .f32 0x3D93CD3A#32
  else (∑ k : Fin 512, N t k.val * W k.val (384 * h + e)) * A r (e - 128)
    + (∑ k : Fin 512, N t k.val * W k.val (384 * h + (128 + e))) * B r (e - 128)

/-- A row of keys: the part of the head, then the rotated part all heads share. -/
def kf (N W H : ℕ → ℕ → EReal) (t h e : ℕ) : EReal :=
  if e < 128 then ∑ k : Fin 512, N t k.val * W k.val (256 * h + e) else H t (e - 128)

/-- A row of values: the part of the head, then a lane that holds one. -/
def vf (N W : ℕ → ℕ → EReal) (t h e : ℕ) : EReal :=
  if e < 128 then ∑ k : Fin 512, N t k.val * W k.val (256 * h + (128 + e)) else if e = 128 then 1 else 0

section
variable (x0 : Vec Ideal S256x1152 .f32) (x1 : Vec Ideal S1x512 .f32) (x2 : Vec Ideal S1x512 .f32)
  (x3 : Vec Ideal S512x6144 .bf16) (x4 : Vec Ideal S512x4096 .bf16) (x5 : Vec Ideal S256x128 .f32)
  (x6 : Vec Ideal S256x128 .f32) (x7 : Vec Ideal S256x128 .f32) (x8 : Vec Ideal S256x128 .f32)

set_option maxHeartbeats 800000 in
/-- What one step stores of the queries. -/
theorem q_core (X W A B : ℕ → ℕ → EReal) (G : ℕ → EReal) (T R : ℕ)
    (eX : ∀ (r : Fin 256) (k : Fin 1152), x0 (ix2 r k) = X (T + r.val) k.val) (eG : ∀ k : Fin 512, x1 (ix2 0 k) = G k.val)
    (eW : ∀ (k : Fin 512) (j : Fin 6144), x3 (ix2 k j) = W k.val j.val)
    (eA : ∀ (r : Fin 256) (k : Fin 128), x5 (ix2 r k) = A (R + r.val) k.val)
    (eB : ∀ (r : Fin 256) (k : Fin 128), x6 (ix2 r k) = B (R + r.val) k.val) (y : S1x16x256x256.Idx) :
    out1_9 (F := Ideal) x0 x1 x2 x3 x4 x5 x6 x7 x8 y
      = qf (fun t => rms 512 (Ideal.ofBits .f32 0x44000000#32) (X t) G) W A B (T + (y 2).val) (R + (y 2).val) (y 1).val (y 3).val := by
  have eN : ∀ r k, k1_pay151 (F := Ideal) x0 x1 x2 x3 x4 x5 x6 x7 x8 (ix2 r k)
      = (fun t => rms 512 (Ideal.ofBits .f32 0x44000000#32) (X (T + t)) G) r.val k.val := fun r k =>
    cqn_at _ _ (fun t => X (T + t)) G (fun r j => by pointwise; exact eX _ _) (fun j => by pointwise; exact eG _) r k
  have eC : ∀ r k, k1_pay155 (F := Ideal) x0 x1 x2 x3 x4 x5 x6 x7 x8 (ix2 r k) = (fun t => A (R + t)) r.val k.val := fun r k => by
    pointwise [k1_pay155, k1_pay12]; exact eA _ _
  have eS : ∀ r k, k1_pay156 (F := Ideal) x0 x1 x2 x3 x4 x5 x6 x7 x8 (ix2 r k) = (fun t => B (R + t)) r.val k.val := fun r k => by
    pointwise [k1_pay156, k1_pay13]; exact eB _ _
  have eC0 : ∀ r k, k1_pay12 (F := Ideal) x5 (ix2 r k) = (fun t => A (R + t)) r.val k.val := fun r k => by
    pointwise [k1_pay12]; exact eA _ _
  have eS0 : ∀ r k, k1_pay13 (F := Ideal) x6 (ix2 r k) = (fun t => B (R + t)) r.val k.val := fun r k => by
    pointwise [k1_pay13]; exact eB _ _
  unfold qf
  frame_out
  canon_tiles x h
  case piece30 =>
    rw [if_neg (show ¬ (y 3).val < 128 by omega)]
    refine qhi_piece (fun t => rms 512 (Ideal.ofBits .f32 0x44000000#32) (X (T + t)) G) W (fun t => A (R + t)) (fun t => B (R + t))
      (k1_pay151 (F := Ideal) x0 x1 x2 x3 x4 x5 x6 x7 x8) x3 (k1_pay12 x5) (k1_pay13 x6) eN eW eC0 eS0 _ (y 1).val (y 2).val (y 3).val _ x ?_ h2 h3
    omega
  all_goals first
    | rw [if_pos (show (y 3).val < 128 by omega)]
      exact qlo_piece (fun t => rms 512 (Ideal.ofBits .f32 0x44000000#32) (X (T + t)) G) W (k1_pay151 (F := Ideal) x0 x1 x2 x3 x4 x5 x6 x7 x8) x3 eN eW _ (y 1).val (y 2).val (y 3).val _ x (by omega) h2 h3
    | rw [if_neg (show ¬ (y 3).val < 128 by omega)]
      refine qhi_piece (fun t => rms 512 (Ideal.ofBits .f32 0x44000000#32) (X (T + t)) G) W (fun t => A (R + t)) (fun t => B (R + t)) (k1_pay151 (F := Ideal) x0 x1 x2 x3 x4 x5 x6 x7 x8) x3
        (k1_pay155 (F := Ideal) x0 x1 x2 x3 x4 x5 x6 x7 x8) (k1_pay156 (F := Ideal) x0 x1 x2 x3 x4 x5 x6 x7 x8)
        eN eW eC eS _ (y 1).val (y 2).val (y 3).val _ x ?_ h2 h3
      omega

/-- What one step stores of the keys. -/
theorem k_core (X W A B : ℕ → ℕ → EReal) (G : ℕ → EReal) (T R : ℕ)
    (eX : ∀ (r : Fin 256) (k : Fin 1152), x0 (ix2 r k) = X (T + r.val) k.val) (eG : ∀ k : Fin 512, x2 (ix2 0 k) = G k.val)
    (eW : ∀ (k : Fin 512) (j : Fin 4096), x4 (ix2 k j) = W k.val j.val)
    (eA : ∀ (r : Fin 256) (k : Fin 128), x7 (ix2 r k) = A (R + r.val) k.val)
    (eB : ∀ (r : Fin 256) (k : Fin 128), x8 (ix2 r k) = B (R + r.val) k.val) (y : S1x16x256x256.Idx) :
    out1_10 (F := Ideal) x0 x1 x2 x3 x4 x5 x6 x7 x8 y
      = kf (fun t => rms 512 (Ideal.ofBits .f32 0x44000000#32) (fun j => X (T + t) (512 + j)) G) W
          (fun t e => X (T + t) (1024 + e) * A (R + t) e + X (T + t) (1024 + (e + 128 - 64) % 128) * B (R + t) e)
          (y 2).val (y 1).val (y 3).val := by
  have eN : ∀ r k, k1_pay152 (F := Ideal) x0 x1 x2 x3 x4 x5 x6 x7 x8 (ix2 r k)
      = (fun t => rms 512 (Ideal.ofBits .f32 0x44000000#32) (fun j => X (T + t) (512 + j)) G) r.val k.val := fun r k =>
    ckvn_at _ _ (fun t => X (T + t)) G (fun r j => by pointwise; exact eX _ _) (fun j => by pointwise; exact eG _) r k
  have eH : ∀ r k, k1_pay153 (F := Ideal) x0 x1 x2 x3 x4 x5 x6 x7 x8 (ix2 r k)
      = (fun t e => X (T + t) (1024 + e) * A (R + t) e + X (T + t) (1024 + (e + 128 - 64) % 128) * B (R + t) e) r.val k.val :=
    fun r k => by
      refine (khi_at _ _ _ r k).trans ?_
      pointwise
      rw [eX, eX, eA, eB]
  unfold kf
  frame_out
  canon_tiles x h
  all_goals first
    | rw [if_pos (show (y 3).val < 128 by omega)]
      exact klo_piece (fun t => rms 512 (Ideal.ofBits .f32 0x44000000#32) (fun j => X (T + t) (512 + j)) G) W (k1_pay152 (F := Ideal) x0 x1 x2 x3 x4 x5 x6 x7 x8) x4 eN eW _ (y 1).val (y 2).val (y 3).val _ x (by omega) h2 h3
    | rw [if_neg (show ¬ (y 3).val < 128 by omega)]
      exact up_piece (fun t e => X (T + t) (1024 + e) * A (R + t) e + X (T + t) (1024 + (e + 128 - 64) % 128) * B (R + t) e) (k1_pay153 (F := Ideal) x0 x1 x2 x3 x4 x5 x6 x7 x8) eH (y 2).val (y 3).val x h2 h3

/-- What one step stores of the values. -/
theorem v_core (X W : ℕ → ℕ → EReal) (G : ℕ → EReal) (T : ℕ)
    (eX : ∀ (r : Fin 256) (k : Fin 1152), x0 (ix2 r k) = X (T + r.val) k.val) (eG : ∀ k : Fin 512, x2 (ix2 0 k) = G k.val)
    (eW : ∀ (k : Fin 512) (j : Fin 4096), x4 (ix2 k j) = W k.val j.val) (y : S1x16x256x256.Idx) :
    out1_11 (F := Ideal) x0 x1 x2 x3 x4 x5 x6 x7 x8 y
      = vf (fun t => rms 512 (Ideal.ofBits .f32 0x44000000#32) (fun j => X (T + t) (512 + j)) G) W
          (y 2).val (y 1).val (y 3).val := by
  have eN : ∀ r k, k1_pay152 (F := Ideal) x0 x1 x2 x3 x4 x5 x6 x7 x8 (ix2 r k)
      = (fun t => rms 512 (Ideal.ofBits .f32 0x44000000#32) (fun j => X (T + t) (512 + j)) G) r.val k.val := fun r k =>
    ckvn_at _ _ (fun t => X (T + t)) G (fun r j => by pointwise; exact eX _ _) (fun j => by pointwise; exact eG _) r k
  have eH : ∀ r k, k1_pay154 (F := Ideal) x0 x1 x2 x3 x4 x5 x6 x7 x8 (ix2 r k)
      = (fun _ e => if e = 0 then (1 : EReal) else 0) r.val k.val := fun r k => vhi_at r k
  have eV : ∀ e : ℕ, 128 ≤ e → (if e = 128 then (1 : EReal) else 0) = if e - 128 = 0 then 1 else 0 := fun e he =>
    if_congr (by omega) rfl rfl
  unfold vf
  frame_out
  canon_tiles x h
  all_goals first
    | rw [if_pos (show (y 3).val < 128 by omega)]
      exact vlo_piece (fun t => rms 512 (Ideal.ofBits .f32 0x44000000#32) (fun j => X (T + t) (512 + j)) G) W (k1_pay152 (F := Ideal) x0 x1 x2 x3 x4 x5 x6 x7 x8) x4 eN eW _ (y 1).val (y 2).val (y 3).val _ x (by omega) h2 h3
    | rw [if_neg (show ¬ (y 3).val < 128 by omega), eV _ (by omega)]
      exact up_piece (fun _ e => if e = 0 then (1 : EReal) else 0) (k1_pay154 (F := Ideal) x0 x1 x2 x3 x4 x5 x6 x7 x8) eH (y 2).val (y 3).val x h2 h3

end

end Cert.KernelIdeal.Reg

end
-- ==== Proof.Qkv3.lean ====
/- The second call: the query, key and value arrays it leaves. -/
module

public import proofs.«01_k».proof.Proof.Gen.KernelIdeal.Frame
public import proofs.«01_k».proof.Proof.Qkv2
public import Idealize.ShloMosaic.Lib.Pipeline.ValueKit
public import Idealize.ShloMosaic.Lib.Pointwise

@[expose] public section

set_option maxRecDepth 16384

noncomputable section

open Idealize.ShloMosaic Idealize.ShloMosaic.TcCoe
open Idealize.ShloMosaic.Pipeline (Dat)
open scoped BigOperators

namespace Cert.KernelIdeal.Reg

open Cert.KernelIdeal Cert.KernelIdeal.Gen Cert.RealLemmas

variable (V : (c : Dev nD) → (b : Ref sig .tc) → Buf (Elt Ideal) ((c : Thread nD τ).loc b))

/-- The windows' index maps of the second call. -/
theorem idx1 : ∀ t : Fin cfg1.N,
    win1_0.index t = ![t.val, 0] ∧ win1_1.index t = ![0, 0] ∧ win1_2.index t = ![0, 0] ∧ win1_3.index t = ![0, 0]
    ∧ win1_4.index t = ![0, 0] ∧ win1_5.index t = ![t.val % 64, 0] ∧ win1_6.index t = ![t.val % 64, 0]
    ∧ win1_7.index t = ![t.val % 64, 0] ∧ win1_8.index t = ![t.val % 64, 0]
    ∧ win1_9.index t = ![t.val / 64, 0, t.val % 64, 0] ∧ win1_10.index t = ![t.val / 64, 0, t.val % 64, 0]
    ∧ win1_11.index t = ![t.val / 64, 0, t.val % 64, 0] :=
  (by decide +kernel : ∀ t : Fin grid1.N, _)

/-- The query slab the second call leaves. -/
theorem final1q (C W A B : ℕ → ℕ → EReal) (G : ℕ → EReal) (c : Dev nD)
    (hC : ∀ i : S32768x1152.Idx, V c main_v9 i = C (i 0).val (i 1).val)
    (hG : ∀ i : S1x512.Idx, V c main_v49 i = G (i 1).val)
    (hW : ∀ i : S512x6144.Idx, V c main_v20 i = W (i 0).val (i 1).val)
    (hA : ∀ i : S16384x128.Idx, V c main_v46 i = A (i 0).val (i 1).val)
    (hB : ∀ i : S16384x128.Idx, V c main_v48 i = B (i 0).val (i 1).val) :
    (dat1 V c).arrAt 9 cfg1.N = fun i : S2x16x16384x256.Idx =>
      qf (fun t => rms 512 (Ideal.ofBits .f32 0x44000000#32) (C t) G) W A B
        ((i 0).val * 16384 + (i 2).val) (i 2).val (i 1).val (i 3).val := by
  refine (dat1 V c).arrAt_eq_of_covers 9 _ (by decide +kernel) fun t _ y => ?_
  blk_simp
  rw [after1_9]
  refine (q_core _ _ _ _ _ _ _ _ _ C W A B G (t.val * 256) (t.val % 64 * 256) (fun r k => ?_) (fun k => ?_) (fun k j => ?_)
    (fun r k => ?_) (fun r k => ?_) y).trans ?_
  · blk_simp [iblk1]
    refine (hC _).trans ?_
    blk_simp [idx1 t]
  · blk_simp [iblk1]
    refine (hG _).trans ?_
    blk_simp [idx1 t]
  · blk_simp [iblk1]
    refine (hW _).trans ?_
    blk_simp [idx1 t]
  · blk_simp [iblk1]
    refine (hA _).trans ?_
    blk_simp [idx1 t]
  · blk_simp [iblk1]
    refine (hB _).trans ?_
    blk_simp [idx1 t]
  · blk_simp [idx1 t]
    have e : t.val / 64 * 16384 + (t.val % 64 * 256 + (y 2).val) = t.val * 256 + (y 2).val := by omega
    rw [e]

/-- The key slab the second call leaves. -/
theorem final1k (C W A B : ℕ → ℕ → EReal) (G : ℕ → EReal) (c : Dev nD)
    (hC : ∀ i : S32768x1152.Idx, V c main_v9 i = C (i 0).val (i 1).val)
    (hG : ∀ i : S1x512.Idx, V c main_v50 i = G (i 1).val)
    (hW : ∀ i : S512x4096.Idx, V c main_v21 i = W (i 0).val (i 1).val)
    (hA : ∀ i : S16384x128.Idx, V c main_v42 i = A (i 0).val (i 1).val)
    (hB : ∀ i : S16384x128.Idx, V c main_v44 i = B (i 0).val (i 1).val) :
    (dat1 V c).arrAt 10 cfg1.N = fun i : S2x16x16384x256.Idx =>
      kf (fun t => rms 512 (Ideal.ofBits .f32 0x44000000#32) (fun j => C ((i 0).val * 16384 + t) (512 + j)) G) W
        (fun t e => C ((i 0).val * 16384 + t) (1024 + e) * A t e + C ((i 0).val * 16384 + t) (1024 + (e + 128 - 64) % 128) * B t e)
        (i 2).val (i 1).val (i 3).val := by
  refine (dat1 V c).arrAt_eq_of_covers 10 _ (by decide +kernel) fun t _ y => ?_
  blk_simp
  rw [after1_10]
  refine (k_core _ _ _ _ _ _ _ _ _ C W A B G (t.val * 256) (t.val % 64 * 256) (fun r k => ?_) (fun k => ?_) (fun k j => ?_)
    (fun r k => ?_) (fun r k => ?_) y).trans ?_
  · blk_simp [iblk1]
    refine (hC _).trans ?_
    blk_simp [idx1 t]
  · blk_simp [iblk1]
    refine (hG _).trans ?_
    blk_simp [idx1 t]
  · blk_simp [iblk1]
    refine (hW _).trans ?_
    blk_simp [idx1 t]
  · blk_simp [iblk1]
    refine (hA _).trans ?_
    blk_simp [idx1 t]
  · blk_simp [iblk1]
    refine (hB _).trans ?_
    blk_simp [idx1 t]
  · blk_simp [idx1 t]
    have e : t.val / 64 * 16384 + (t.val % 64 * 256 + (y 2).val) = t.val * 256 + (y 2).val := by omega
    simp only [kf, e]

/-- The value slab the second call leaves. -/
theorem final1v (C W : ℕ → ℕ → EReal) (G : ℕ → EReal) (c : Dev nD)
    (hC : ∀ i : S32768x1152.Idx, V c main_v9 i = C (i 0).val (i 1).val)
    (hG : ∀ i : S1x512.Idx, V c main_v50 i = G (i 1).val)
    (hW : ∀ i : S512x4096.Idx, V c main_v21 i = W (i 0).val (i 1).val) :
    (dat1 V c).arrAt 11 cfg1.N = fun i : S2x16x16384x256.Idx =>
      vf (fun t => rms 512 (Ideal.ofBits .f32 0x44000000#32) (fun j => C ((i 0).val * 16384 + t) (512 + j)) G) W
        (i 2).val (i 1).val (i 3).val := by
  refine (dat1 V c).arrAt_eq_of_covers 11 _ (by decide +kernel) fun t _ y => ?_
  blk_simp
  rw [after1_11]
  refine (v_core _ _ _ _ _ _ _ _ _ C W G (t.val * 256) (fun r k => ?_) (fun k => ?_) (fun k j => ?_) y).trans ?_
  · blk_simp [iblk1]
    refine (hC _).trans ?_
    blk_simp [idx1 t]
  · blk_simp [iblk1]
    refine (hG _).trans ?_
    blk_simp [idx1 t]
  · blk_simp [iblk1]
    refine (hW _).trans ?_
    blk_simp [idx1 t]
  · blk_simp [idx1 t]
    have e : t.val / 64 * 16384 + (t.val % 64 * 256 + (y 2).val) = t.val * 256 + (y 2).val := by omega
    simp only [vf, e]

end Cert.KernelIdeal.Reg

end
-- ==== Proof.AttnStep.lean ====
/- The step of the streaming attention, named: the kernel's printed values over one block of 1024 keys are
   compositions of the few functions below. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe

namespace Cert.KernelIdeal.Attn

open Cert.KernelIdeal Cert.KernelIdeal.Gen

variable {F : FTy → Type} [FloatOps F]

/-- The scores of a query block against a block of keys. -/
def S2 (q : FVec F S512x256 .bf16) (k : Vec F S1x1x1024x256 .bf16) : FVec F S512x1024 .f32 :=
  matmul dot_S512x256_S1024x256_S512x1024_1_1_0_0_n_n none q
    (shapeCast S1024x256 k shapeCasts_S1x1x1024x256_S1024x256) (constant S512x1024 .f32 0x00000000#32)

/-- Each query's largest score. -/
def X2 (s : FVec F S512x1024 .f32) : FVec F S512 .f32 :=
  multiReduction .maximumf [1] S512 s 0xFF800000#32 reduces_S512x1024_S512 (.inl rfl) rfl

/-- The running maximum against a block's maximum. -/
def MX (m : FVec F S512x1 .f32) (x : FVec F S512 .f32) : FVec F S512x1 .f32 :=
  maximumf m (shapeCast S512x1 x shapeCasts_S512_S512x1)

/-- The running maximum after a block of scores. -/
abbrev M2 (m : FVec F S512x1 .f32) (s : FVec F S512x1024 .f32) : FVec F S512x1 .f32 := MX m (X2 s)

/-- The weights of a block: the exponential of the scores less the maximum. -/
def P2 (m' : FVec F S512x1 .f32) (s : FVec F S512x1024 .f32) : FVec F S512x1024 .bf16 :=
  exp (truncf .bf16 (subf s (broadcastTo S512x1024 m' broadcasts_S512x1_S512x1024)) bitsLt_bf16_f32)

/-- The running sums rescaled from the old maximum to the new one. -/
def E2 (a : FVec F S512x256 .f32) (m m' : FVec F S512x1 .f32) : FVec F S512x256 .f32 :=
  mulf a (broadcastTo S512x256 (exp (subf m m')) broadcasts_S512x1_S512x256)

/-- The weighted sum of a block of values. -/
def B2 (p : FVec F S512x1024 .bf16) (v : Vec F S1x1x1024x256 .bf16) : FVec F S512x256 .f32 :=
  matmul dot_S512x1024_S1024x256_S512x256_1_0_0_1_n_n none p
    (shapeCast S1024x256 v shapeCasts_S1x1x1024x256_S1024x256) (constant S512x256 .f32 0x00000000#32)

/-- The running sums after a block. -/
def A2 (a : FVec F S512x256 .f32) (m m' : FVec F S512x1 .f32) (s : FVec F S512x1024 .f32)
    (v : Vec F S1x1x1024x256 .bf16) : FVec F S512x256 .f32 :=
  addf (E2 a m m') (B2 (P2 m' s) v)

/-- The running sums before the first block. -/
def Z2 : FVec F S512x256 .f32 := broadcast S512x256 (Scalar.ofBits .f32 0x00000000#32)

section
variable (v0 : Vec F S1x1x512x256 .bf16) (q : FVec F S512x256 .bf16) (a b : FVec F S512x256 .f32)
  (m m' : FVec F S512x1 .f32) (x : FVec F S512 .f32) (s s' : FVec F S512x1024 .f32) (p : FVec F S512x1024 .bf16)
  (k v k' v' k'' : Vec F S1x1x1024x256 .bf16)

theorem pay4 : k2_pay4 v0 k = S2 (k2_pay2 v0) k := rfl
theorem pay5 : k2_pay5 v0 k = M2 (k2_pay3 (F := F)) (S2 (k2_pay2 v0) k) := rfl
theorem pay6 : k2_pay6 v0 k v = A2 Z2 (k2_pay3 (F := F)) (M2 (k2_pay3 (F := F)) (S2 (k2_pay2 v0) k)) (S2 (k2_pay2 v0) k) v := rfl
theorem pay7 : k2_pay7 v0 k = S2 (k2_pay2 v0) k := rfl
theorem pay8 : k2_pay8 v0 k = X2 (S2 (k2_pay2 v0) k) := rfl
theorem pay9 : k2_pay9 m x = MX m x := rfl
theorem pay10 : k2_pay10 q k = S2 q k := rfl
theorem pay11 : k2_pay11 q m x k = M2 (MX m x) (S2 q k) := rfl
theorem pay12 : k2_pay12 q m a s x v k v' = A2 (A2 a m (MX m x) s v) (MX m x) (M2 (MX m x) (S2 q k)) (S2 q k) v' := rfl
theorem pay13 : k2_pay13 q k = S2 q k := rfl
theorem pay14 : k2_pay14 q m k = M2 m (S2 q k) := rfl
theorem pay15 : k2_pay15 q k = S2 q k := rfl
theorem pay16 : k2_pay16 q m k k' = M2 (M2 m (S2 q k)) (S2 q k') := rfl
theorem pay17 : k2_pay17 q m a k v k' v' = A2 (A2 a m (M2 m (S2 q k)) (S2 q k) v) (M2 m (S2 q k)) (M2 (M2 m (S2 q k)) (S2 q k')) (S2 q k') v' := rfl
theorem pay18 : k2_pay18 q k = S2 q k := rfl
theorem pay19 : k2_pay19 q m k = M2 m (S2 q k) := rfl
theorem pay20 : k2_pay20 q k = S2 q k := rfl
theorem pay21 : k2_pay21 q m k k' = M2 (M2 m (S2 q k)) (S2 q k') := rfl
theorem pay22 : k2_pay22 q m k k' = P2 (M2 (M2 m (S2 q k)) (S2 q k')) (S2 q k') := rfl
theorem pay23 : k2_pay23 q m a k v k' = E2 (A2 a m (M2 m (S2 q k)) (S2 q k) v) (M2 m (S2 q k)) (M2 (M2 m (S2 q k)) (S2 q k')) := rfl
theorem pay24 : k2_pay24 q k = S2 q k := rfl
theorem pay25 : k2_pay25 q m k = M2 m (S2 q k) := rfl
theorem pay26 : k2_pay26 q m p a v k v' = A2 (addf a (B2 p v)) m (M2 m (S2 q k)) (S2 q k) v' := rfl
theorem pay27 : k2_pay27 q k = S2 q k := rfl
theorem pay28 : k2_pay28 q m k k' = M2 (M2 m (S2 q k)) (S2 q k') := rfl
theorem pay29 : k2_pay29 q m k k' = P2 (M2 (M2 m (S2 q k)) (S2 q k')) (S2 q k') := rfl
theorem pay31 : k2_pay31 q k = S2 q k := rfl
theorem pay32 : k2_pay32 q m k = M2 m (S2 q k) := rfl
theorem pay33 : k2_pay33 q a m p b v k v' = A2 (addf (mulf a b) (B2 p v)) m (M2 m (S2 q k)) (S2 q k) v' := rfl
/-- The rescaling factor printed apart, put back in its product. -/
theorem pay30 : mulf a (k2_pay30 q m k k') = E2 a (M2 m (S2 q k)) (M2 (M2 m (S2 q k)) (S2 q k')) := rfl
theorem pay34 : k2_pay34 q k = S2 q k := rfl
theorem pay35 : k2_pay35 q m k k' = M2 (M2 m (S2 q k)) (S2 q k') := rfl
theorem pay37 : k2_pay37 q k = S2 q k := rfl
theorem pay38 : k2_pay38 q m k = M2 m (S2 q k) := rfl
theorem pay36_39 : k2_pay39 q (M2 m (S2 q k)) a (S2 q k') (M2 (M2 m (S2 q k)) (S2 q k')) (k2_pay36 q m k k') v k'' v' =
    A2 (A2 a (M2 m (S2 q k)) (M2 (M2 m (S2 q k)) (S2 q k')) (S2 q k') v) (M2 (M2 m (S2 q k)) (S2 q k'))
      (M2 (M2 (M2 m (S2 q k)) (S2 q k')) (S2 q k'')) (S2 q k'') v' := rfl
theorem pay41 : k2_pay41 q (k2_pay40 k) (constant S512x1024 .f32 0x00000000#32) = S2 q k := rfl
theorem pay42 : k2_pay42 q m (k2_pay40 k) (constant S512x1024 .f32 0x00000000#32) = M2 m (S2 q k) := rfl
theorem pay43 : k2_pay43 q k = S2 q k := rfl
theorem pay44 : k2_pay44 q m (k2_pay40 k) (constant S512x1024 .f32 0x00000000#32) k' = M2 (M2 m (S2 q k)) (S2 q k') := rfl
theorem pay45 : k2_pay45 q m a (k2_pay40 k) (constant S512x1024 .f32 0x00000000#32) v k' v' =
    A2 (A2 a m (M2 m (S2 q k)) (S2 q k) v) (M2 m (S2 q k)) (M2 (M2 m (S2 q k)) (S2 q k')) (S2 q k') v' := rfl
theorem pay46 : k2_pay46 q k = S2 q k := rfl
theorem pay47 : k2_pay47 q m k = M2 m (S2 q k) := rfl
theorem pay48 : k2_pay48 q k = S2 q k := rfl
theorem pay49 : k2_pay49 q m k k' = M2 (M2 m (S2 q k)) (S2 q k') := rfl
theorem pay50 : k2_pay50 q m a k v k' = E2 (A2 a m (M2 m (S2 q k)) (S2 q k) v) (M2 m (S2 q k)) (M2 (M2 m (S2 q k)) (S2 q k')) := rfl
theorem pay51 : k2_pay51 q m k k' v = B2 (P2 (M2 (M2 m (S2 q k)) (S2 q k')) (S2 q k')) v := rfl
/-- A block's running sums put back together. -/
theorem add_eq : addf (E2 a m m') (B2 (P2 m' s) v) = A2 a m m' s v := rfl
end

/-- What the program divides: the running sums after all the blocks. -/
def O2 (a : FVec F S512x256 .f32) : FVec F S1x512x128 .bf16 :=
  shapeCast S1x512x128 (truncf .bf16 (divf (extractStridedSlice S512x128 ![0, 0] a slices_S512x256_o0_0_S512x128)
    (broadcastTo S512x128 (extractStridedSlice S512x1 ![0, 128] a slices_S512x256_o0_128_S512x1) broadcasts_S512x1_S512x128))
    bitsLt_bf16_f32) shapeCasts_S512x128_S1x512x128

theorem pay1 (a b : FVec F S512x256 .f32) : k2_pay1 a b = O2 (addf a b) := rfl

end Cert.KernelIdeal.Attn

end
-- ==== Proof.AttnInv.lean ====
/- The streaming attention over real numbers: after `n` blocks of keys the running sums are the sums of the exponentials
   of all scores so far, less the running maximum. -/
module

public import proofs.«01_k».proof.Proof.AttnStep
public import proofs.«01_k».proof.Proof.RealLemmas
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.KernelIdeal.Attn

open Cert.KernelIdeal Cert.KernelIdeal.Gen Cert.RealLemmas

/-- A score at its row and key. -/
theorem S2_at (q : FVec Ideal S512x256 .bf16) (k : Vec Ideal S1x1x1024x256 .bf16) (r : Fin 512) (j : Fin 1024) :
    S2 q k (ix2 r j) = ∑ d : Fin 256, q (ix2 r d) * k (ix4 0 0 j d) := by
  pointwise [S2]
/-- The running maximum at its row. -/
theorem M2_at (m : FVec Ideal S512x1 .f32) (s : FVec Ideal S512x1024 .f32) (r : Fin 512) :
    M2 m s (ix2 r 0) = max (m (ix2 r 0)) (Finset.univ.fold max ⊥ fun j => s (ix2 r j)) := by
  pointwise [M2, MX, X2]
  rw [ofBits_neg_inf]
/-- A weight at its row and key. -/
theorem P2_at (m' : FVec Ideal S512x1 .f32) (s : FVec Ideal S512x1024 .f32) (r : Fin 512) (j : Fin 1024) :
    P2 m' s (ix2 r j) = Ideal.exp (s (ix2 r j) - m' (ix2 r 0)) := by
  pointwise [P2]
/-- A rescaled running sum. -/
theorem E2_at (a : FVec Ideal S512x256 .f32) (m m' : FVec Ideal S512x1 .f32) (r : Fin 512) (l : Fin 256) :
    E2 a m m' (ix2 r l) = a (ix2 r l) * Ideal.exp (m (ix2 r 0) - m' (ix2 r 0)) := by
  pointwise [E2]
/-- A weighted sum of a block of values. -/
theorem B2_at (p : FVec Ideal S512x1024 .bf16) (v : Vec Ideal S1x1x1024x256 .bf16) (r : Fin 512) (l : Fin 256) :
    B2 p v (ix2 r l) = ∑ j : Fin 1024, p (ix2 r j) * v (ix4 0 0 j l) := by
  pointwise [B2]
/-- The running sum after a block. -/
theorem A2_at (a : FVec Ideal S512x256 .f32) (m m' : FVec Ideal S512x1 .f32) (s : FVec Ideal S512x1024 .f32)
    (v : Vec Ideal S1x1x1024x256 .bf16) (r : Fin 512) (l : Fin 256) :
    A2 a m m' s v (ix2 r l) = a (ix2 r l) * Ideal.exp (m (ix2 r 0) - m' (ix2 r 0))
      + ∑ j : Fin 1024, Ideal.exp (s (ix2 r j) - m' (ix2 r 0)) * v (ix4 0 0 j l) := by
  rw [← E2_at]
  simp only [← P2_at]
  rw [← B2_at]
  rfl
/-- The quotient of the running sums by the lane that sums the weights. -/
theorem O2_at (a : FVec Ideal S512x256 .f32) (r : Fin 512) (e : Fin 128) :
    O2 a (ix3 0 r e) = Ideal.div (a (ix2 r ⟨e.val, by omega⟩)) (a (ix2 r 128)) := by
  pointwise [O2]
/-- The query block as a matrix. -/
theorem q_at (v : Vec Ideal S1x1x512x256 .bf16) (r : Fin 512) (e : Fin 256) :
    k2_pay2 v (ix2 r e) = v (ix4 0 0 r e) := by
  pointwise [k2_pay2]
/-- The running maximum starts at a real number. -/
theorem m0_at (r : Fin 512) : k2_pay3 (F := Ideal) (ix2 r 0) = Ideal.ofBits .f32 0xF149F2CA#32 := by
  pointwise [k2_pay3]
/-- The running sums start at zero. -/
theorem z_at (r : Fin 512) (e : Fin 256) : Z2 (F := Ideal) (ix2 r e) = 0 := by
  pointwise [Z2]

/-- A query's score against a key. -/
def sc (q : Fin 512 → Fin 256 → ℝ) (k : ℕ → Fin 256 → ℝ) (r : Fin 512) (j : ℕ) : ℝ := ∑ d, q r d * k j d

/-- What holds after `n` keys: the running maximum is a real number `μ`, and each lane's sum is over those keys. -/
def Inv (q : Fin 512 → Fin 256 → ℝ) (k v : ℕ → Fin 256 → ℝ) (n : ℕ) (m : FVec Ideal S512x1 .f32)
    (a : FVec Ideal S512x256 .f32) : Prop :=
  ∃ μ : Fin 512 → ℝ, (∀ r, m (ix2 r 0) = (μ r : EReal)) ∧
    ∀ r l, a (ix2 r l) = ((∑ j ∈ Finset.range n, Real.exp (sc q k r j - μ r) * v j l : ℝ) : EReal)

/-- Before the first block. -/
theorem inv_zero (q : Fin 512 → Fin 256 → ℝ) (k v : ℕ → Fin 256 → ℝ) :
    Inv q k v 0 (k2_pay3 (F := Ideal)) Z2 := by
  obtain ⟨x, hx⟩ := isR_start
  exact ⟨fun _ => x, fun r => (m0_at r).trans hx, fun r l => by rw [z_at]; simp⟩

/-- One block of 1024 keys. -/
theorem inv_step (q : Fin 512 → Fin 256 → ℝ) (k v : ℕ → Fin 256 → ℝ) (n : ℕ) (m : FVec Ideal S512x1 .f32)
    (a : FVec Ideal S512x256 .f32) (qb : FVec Ideal S512x256 .bf16) (kb vb : Vec Ideal S1x1x1024x256 .bf16)
    (hq : ∀ r d, qb (ix2 r d) = (q r d : EReal))
    (hk : ∀ j d, kb (ix4 0 0 j d) = (k (n + j.val) d : EReal))
    (hv : ∀ j d, vb (ix4 0 0 j d) = (v (n + j.val) d : EReal))
    (h : Inv q k v n m a) :
    Inv q k v (n + 1024) (M2 m (S2 qb kb)) (A2 a m (M2 m (S2 qb kb)) (S2 qb kb) vb) := by
  obtain ⟨μ, hm, ha⟩ := h
  have hs : ∀ r (j : Fin 1024), S2 qb kb (ix2 r j) = ((sc q k r (n + j.val) : ℝ) : EReal) := fun r j => by
    rw [S2_at, sc, coe_sum]
    exact Finset.sum_congr rfl fun d _ => by rw [hq, hk, EReal.coe_mul]
  have hm' : ∀ r, IsR (M2 m (S2 qb kb) (ix2 r 0)) := fun r => by
    rw [M2_at]
    exact IsR.max ⟨_, hm r⟩ (IsR.fold_max (by decide) _ fun j => ⟨_, hs r j⟩)
  choose μ' hμ' using hm'
  refine ⟨μ', hμ', fun r l => ?_⟩
  rw [A2_at, hm, hμ', ha, ← EReal.coe_sub, Ideal.exp_coe, ← EReal.coe_mul]
  have e2 : ∑ j : Fin 1024, Ideal.exp (S2 qb kb (ix2 r j) - (μ' r : EReal)) * vb (ix4 0 0 j l)
      = ((∑ j : Fin 1024, Real.exp (sc q k r (n + j.val) - μ' r) * v (n + j.val) l : ℝ) : EReal) := by
    rw [coe_sum]
    exact Finset.sum_congr rfl fun j _ => by
      rw [hs, hv, ← EReal.coe_sub, Ideal.exp_coe, EReal.coe_mul]
  rw [e2, ← EReal.coe_add]
  congr 1
  rw [Finset.sum_range_add, Fin.sum_univ_eq_sum_range (fun j => Real.exp (sc q k r (n + j) - μ' r) * v (n + j) l),
    Finset.sum_mul]
  congr 1
  refine Finset.sum_congr rfl fun j _ => ?_
  rw [mul_right_comm, ← Real.exp_add]
  congr 2
  ring

/-- The quotient the program stores: the maximum has no part in it. -/
theorem inv_out (q : Fin 512 → Fin 256 → ℝ) (k v : ℕ → Fin 256 → ℝ) (n : ℕ) (hn : 0 < n) (m : FVec Ideal S512x1 .f32)
    (a : FVec Ideal S512x256 .f32) (h : Inv q k v n m a) (h1 : ∀ j, j < n → v j 128 = 1) (r : Fin 512) (e : Fin 128) :
    O2 a (ix3 0 r e) = (((∑ j ∈ Finset.range n, Real.exp (sc q k r j) * v j ⟨e.val, by omega⟩)
      / ∑ j ∈ Finset.range n, Real.exp (sc q k r j) : ℝ) : EReal) := by
  obtain ⟨μ, -, ha⟩ := h
  have hden : ∑ j ∈ Finset.range n, Real.exp (sc q k r j - μ r) * v j 128
      = Real.exp (-μ r) * ∑ j ∈ Finset.range n, Real.exp (sc q k r j) := by
    rw [Finset.mul_sum]
    refine Finset.sum_congr rfl fun j hj => ?_
    rw [h1 j (Finset.mem_range.mp hj), mul_one, ← Real.exp_add]; congr 1; ring
  have hnum : ∀ l, ∑ j ∈ Finset.range n, Real.exp (sc q k r j - μ r) * v j l
      = Real.exp (-μ r) * ∑ j ∈ Finset.range n, Real.exp (sc q k r j) * v j l := fun l => by
    rw [Finset.mul_sum]
    refine Finset.sum_congr rfl fun j hj => ?_
    rw [← mul_assoc, ← Real.exp_add]; congr 2; ring
  have hpos : 0 < ∑ j ∈ Finset.range n, Real.exp (sc q k r j) :=
    Finset.sum_pos (fun j _ => Real.exp_pos _) ⟨0, Finset.mem_range.mpr hn⟩
  rw [O2_at, ha, ha, hden, hnum, div_coe_coe _ (mul_pos (Real.exp_pos _) hpos).ne',
    mul_div_mul_left _ _ (Real.exp_pos _).ne']

end Cert.KernelIdeal.Attn

end
-- ==== Proof.Attn2.lean ====
/- The attention call: what it leaves in its output array, from what its three operand arrays hold when it starts. -/
module

public import proofs.«01_k».proof.Proof.Gen.KernelIdeal.Frame
public import proofs.«01_k».proof.Proof.AttnInv
public import Idealize.ShloMosaic.Lib.Pipeline.ValueKit

@[expose] public section

set_option maxRecDepth 16384

noncomputable section

open Idealize.ShloMosaic Idealize.ShloMosaic.TcCoe
open Idealize.ShloMosaic.Pipeline (Dat)
open scoped BigOperators

namespace Cert.KernelIdeal.Attn

open Cert.KernelIdeal Cert.KernelIdeal.Gen Cert.RealLemmas

variable (V : (c : Dev nD) → (b : Ref sig .tc) → Buf (Elt Ideal) ((c : Thread nD τ).loc b))

/-- The windows' index maps: batch, head, query block. -/
theorem idx2 : ∀ t : Fin cfg2.N,
    win2_0.index t = ![t.val / 512, t.val / 32 % 16, t.val % 32, 0]
    ∧ win2_1.index t = ![t.val / 512, t.val / 32 % 16, 0, 0]
    ∧ win2_2.index t = ![t.val / 512, t.val / 32 % 16, 0, 0]
    ∧ win2_3.index t = ![t.val / 512, t.val % 32, t.val / 32 % 16] :=
  (by decide +kernel : ∀ t : Fin grid2.N, _)

/-- The attention of one query, head by head: the values weighted by the exponentials of the scores, over their sum. -/
def attn (Q K W : ℕ → ℕ → ℕ → ℕ → ℝ) (b h r l : ℕ) : ℝ :=
  (∑ j ∈ Finset.range 16384, Real.exp (∑ d : Fin 256, Q b h r d.val * K b h j d.val) * W b h j l)
    / ∑ j ∈ Finset.range 16384, Real.exp (∑ d : Fin 256, Q b h r d.val * K b h j d.val)

section
variable (Q K W : ℕ → ℕ → ℕ → ℕ → ℝ)
/-- The query block, at its row and lane. -/
theorem blk_at0 (c : Dev nD) (hQ : ∀ i : S2x16x16384x256.Idx, V c main_v51_0 i = (Q (i 0).val (i 1).val (i 2).val (i 3).val : EReal))
    (t : Fin cfg2.N) (r : Fin 512) (d : Fin 256) :
    k2_pay2 (iblk2 V c 0 t) (ix2 r d) = (Q (t.val / 512) (t.val / 32 % 16) (t.val % 32 * 512 + r.val) d.val : EReal) := by
  refine (q_at _ r d).trans ?_
  blk_simp [iblk2]
  refine (hQ _).trans ?_
  blk_simp [idx2 t]
  rfl
/-- A block of 1024 keys of one head, at its key and lane. -/
theorem blk_at1 (c : Dev nD) (hK : ∀ i : S2x16x16384x256.Idx, V c main_v51_1 i = (K (i 0).val (i 1).val (i 2).val (i 3).val : EReal))
    (t : Fin cfg2.N) (o : ℕ) (hb) (j : Fin 1024) (d : Fin 256) :
    View.ld (iblk2 V c 1 t) (Rect.unit (s := S1x1x16384x256) ![0, 0, o, 0] ![1, 1, 1024, 256] hb) (ix4 0 0 j d)
      = (K (t.val / 512) (t.val / 32 % 16) (o + j.val) d.val : EReal) := by
  pointwise
  blk_simp [iblk2]
  refine (hK _).trans ?_
  blk_simp [idx2 t]
  rfl
/-- A block of 1024 values of one head, at its key and lane. -/
theorem blk_at2 (c : Dev nD) (hW : ∀ i : S2x16x16384x256.Idx, V c main_v51_2 i = (W (i 0).val (i 1).val (i 2).val (i 3).val : EReal))
    (t : Fin cfg2.N) (o : ℕ) (hb) (j : Fin 1024) (d : Fin 256) :
    View.ld (iblk2 V c 2 t) (Rect.unit (s := S1x1x16384x256) ![0, 0, o, 0] ![1, 1, 1024, 256] hb) (ix4 0 0 j d)
      = (W (t.val / 512) (t.val / 32 % 16) (o + j.val) d.val : EReal) := by
  pointwise
  blk_simp [iblk2]
  refine (hW _).trans ?_
  blk_simp [idx2 t]
  rfl

/-- What the body leaves at a grid point: the attention of the point's queries over all keys of their head. -/
theorem out2_at (c : Dev nD)
    (hQ : ∀ i : S2x16x16384x256.Idx, V c main_v51_0 i = (Q (i 0).val (i 1).val (i 2).val (i 3).val : EReal))
    (hK : ∀ i : S2x16x16384x256.Idx, V c main_v51_1 i = (K (i 0).val (i 1).val (i 2).val (i 3).val : EReal))
    (hW : ∀ i : S2x16x16384x256.Idx, V c main_v51_2 i = (W (i 0).val (i 1).val (i 2).val (i 3).val : EReal))
    (h1 : ∀ b h j, W b h j 128 = 1) (t : Fin cfg2.N) (r : Fin 512) (e : Fin 128) :
    outsAt2 V c t (ix3 0 r e)
      = (attn Q K W (t.val / 512) (t.val / 32 % 16) (t.val % 32 * 512 + r.val) e.val : EReal) := by
  unfold outsAt2 out2_A_3
  frame_out
  simp only [pay4, pay5, pay6, pay7, pay8, pay9, pay10, pay11, pay12, pay13, pay14, pay15, pay16, pay17, pay18, pay19,
    pay20, pay21, pay22, pay23, pay24, pay25, pay26, pay27, pay28, pay29, pay30, pay31, pay32, pay33, pay34, pay35,
    pay37, pay38, pay36_39, pay41, pay42, pay43, pay44, pay45, pay46, pay47, pay48, pay49, pay50, pay51, add_eq, pay1]
  have hq := blk_at0 V Q c hQ t
  have hk := blk_at1 V K c hK t
  have hw := blk_at2 V W c hW t
  have h0 := inv_zero (fun r d => Q (t.val / 512) (t.val / 32 % 16) (t.val % 32 * 512 + r.val) d.val)
    (fun j d => K (t.val / 512) (t.val / 32 % 16) j d.val) (fun j d => W (t.val / 512) (t.val / 32 % 16) j d.val)
  exact inv_out _ _ _ 16384 (by norm_num) _ _
      (inv_step _ _ _ 15360 _ _ _ _ _ hq (hk 15360 _) (hw 15360 _)
      (inv_step _ _ _ 14336 _ _ _ _ _ hq (hk 14336 _) (hw 14336 _)
      (inv_step _ _ _ 13312 _ _ _ _ _ hq (hk 13312 _) (hw 13312 _)
      (inv_step _ _ _ 12288 _ _ _ _ _ hq (hk 12288 _) (hw 12288 _)
      (inv_step _ _ _ 11264 _ _ _ _ _ hq (hk 11264 _) (hw 11264 _)
      (inv_step _ _ _ 10240 _ _ _ _ _ hq (hk 10240 _) (hw 10240 _)
      (inv_step _ _ _ 9216 _ _ _ _ _ hq (hk 9216 _) (hw 9216 _)
      (inv_step _ _ _ 8192 _ _ _ _ _ hq (hk 8192 _) (hw 8192 _)
      (inv_step _ _ _ 7168 _ _ _ _ _ hq (hk 7168 _) (hw 7168 _)
      (inv_step _ _ _ 6144 _ _ _ _ _ hq (hk 6144 _) (hw 6144 _)
      (inv_step _ _ _ 5120 _ _ _ _ _ hq (hk 5120 _) (hw 5120 _)
      (inv_step _ _ _ 4096 _ _ _ _ _ hq (hk 4096 _) (hw 4096 _)
      (inv_step _ _ _ 3072 _ _ _ _ _ hq (hk 3072 _) (hw 3072 _)
      (inv_step _ _ _ 2048 _ _ _ _ _ hq (hk 2048 _) (hw 2048 _)
      (inv_step _ _ _ 1024 _ _ _ _ _ hq (hk 1024 _) (hw 1024 _)
      (inv_step _ _ _ 0 _ _ _ _ _ hq (hk 0 _) (hw 0 _)
      h0))))))))))))))))
      (fun j _ => h1 _ _ j) r e
end

/-- The output blocks tile the output array. -/
theorem cov2 : (cfg2.win 3).Covers := by decide +kernel

/-- What the call leaves in its output array. -/
theorem final2 (Q K W : ℕ → ℕ → ℕ → ℕ → ℝ) (c : Dev nD)
    (hQ : ∀ i : S2x16x16384x256.Idx, V c main_v51_0 i = (Q (i 0).val (i 1).val (i 2).val (i 3).val : EReal))
    (hK : ∀ i : S2x16x16384x256.Idx, V c main_v51_1 i = (K (i 0).val (i 1).val (i 2).val (i 3).val : EReal))
    (hW : ∀ i : S2x16x16384x256.Idx, V c main_v51_2 i = (W (i 0).val (i 1).val (i 2).val (i 3).val : EReal))
    (h1 : ∀ b h j, W b h j 128 = 1) :
    (dat2 V c).arrAt 3 cfg2.N = fun i : S2x16384x2048.Idx =>
      (attn Q K W (i 0).val ((i 2).val / 128) (i 1).val ((i 2).val % 128) : EReal) := by
  refine (dat2 V c).arrAt_eq_of_covers 3 _ cov2 fun t _ y => ?_
  blk_simp
  rw [after2_3]
  have hy : y = ix3 0 (y 1) (y 2) := by
    funext a; match a with
    | 0 => exact Subsingleton.elim (α := Fin 1) _ _
    | 1 => rfl
    | 2 => rfl
  rw [hy]
  refine (out2_at V Q K W c hQ hK hW h1 t (y 1) (y 2)).trans ?_
  blk_simp [idx2 t]
  have h2 : (y 2).val < 128 := (y 2).isLt
  rw [show (t.val / 32 % 16 * 128 + (y 2).val) / 128 = t.val / 32 % 16 by omega,
    show (t.val / 32 % 16 * 128 + (y 2).val) % 128 = (y 2).val by omega]

end Cert.KernelIdeal.Attn

end
-- ==== Proof.Tables.lean ====
/- The angles of the positions, as both programs compute them. -/
module

public import Idealize.ShloMosaic.Lib.Pipeline.ValueKit
public import Idealize.ShloMosaic.Lib.Pointwise
public import proofs.«01_k».proof.Proof.RealLemmas

@[expose] public section

noncomputable section

open Idealize.ShloMosaic

namespace Cert.RealLemmas

/-- The angle of position `l` at frequency `f`. -/
def ang (l f : ℕ) : EReal :=
  (FloatOps.sitofp FTy.f32 (BitVec.ofNat 32 l) : Ideal .f32) *
    Ideal.div 1 (Ideal.pow (Ideal.ofBits FTy.f32 0x461C4000#32)
      (Ideal.div (Ideal.ofBits FTy.f32 0x40000000#32 * (FloatOps.sitofp FTy.f32 (BitVec.ofNat 32 f) : Ideal .f32))
        (Ideal.ofBits FTy.f32 0x42800000#32)))

/-- The angle of position `l` at lane `e` of 64: the 32 frequencies, twice. -/
def ang2 (l e : ℕ) : EReal := if e < 32 then ang l e else ang l (e - 32)

end Cert.RealLemmas

end
-- ==== Proof.Host.lean ====
/- What the host computes around the four calls. -/
module

public import proofs.«01_k».proof.Proof.Gen.KernelIdeal.Frame
public import Idealize.ShloMosaic.Lib.Pipeline.ValueKit
public import Idealize.ShloMosaic.Lib.Pointwise
public import proofs.«01_k».proof.Proof.Tables

@[expose] public section

set_option maxRecDepth 16384

noncomputable section

open Idealize.ShloMosaic Idealize.ShloMosaic.TcCoe
open scoped BigOperators

namespace Cert.KernelIdeal.Host

open Cert.KernelIdeal Cert.KernelIdeal.Gen Cert.RealLemmas

variable (W : Valuation τ sig (Elt Ideal))

/-- The first nine operations of the second stretch. -/
abbrev ops9 : List (HloOp τ sig (Elt Ideal)) := hostOps1.take 9

/-- The zero block. -/
theorem s12 (i : S512x16x64.Idx) : StableHlo.after ops9 W (Proc.devRef .tc main_v12) i = (0 : EReal) := by
  simp only [ops9, hostOps1, List.take]
  after_results
  idx_vars i
  pointwise
/-- Cases of a read on one condition. -/
theorem cases_read {c : Prop} [Decidable c] {a : c → EReal} {b : ¬c → EReal} {x y : EReal} (e1 : ∀ h, a h = x) (e2 : ∀ h, b h = y) :
    dite c a b = ite c x y := by
  by_cases h : c
  · rw [dif_pos h, if_pos h, e1]
  · rw [dif_neg h, if_neg h, e2]

/-- The widened query weights: each head's 128 plain columns, its 64 position columns, zeros, the rotated position
    columns, zeros. -/
def wq3 (A : ℕ → ℕ → EReal) (k j : ℕ) : EReal :=
      if j % 384 < 128 then A k (j / 384 * 192 + j % 384) else
      if j % 384 - 128 < 64 then A k (j / 384 * 192 + (128 + (j % 384 - 128))) else
      if j % 384 - 128 - 64 < 64 then 0 else
      if j % 384 - 128 - 64 - 64 < 64 then
        (if j % 384 - 128 - 64 - 64 < 32 then
          -A k (j / 384 * 192 + (128 + (32 + (j % 384 - 128 - 64 - 64))))
        else A k (j / 384 * 192 + (128 + (j % 384 - 128 - 64 - 64 - 32))))
      else 0

section
variable (A : ℕ → ℕ → EReal) (hA : ∀ i : S512x3072.Idx, W (Proc.devRef .tc main_arg4) i = A (i 0).val (i 1).val)
include hA
theorem s13 (i : S512x16x128.Idx) :
    StableHlo.after ops9 W (Proc.devRef .tc main_v13) i = A (i 0).val ((i 1).val * 192 + (i 2).val) := by
  simp only [ops9, hostOps1, List.take]
  after_results
  idx_vars i
  pointwise
  exact hA _
theorem s11 (i : S512x16x64.Idx) :
    StableHlo.after ops9 W (Proc.devRef .tc main_v11) i = A (i 0).val ((i 1).val * 192 + (128 + (i 2).val)) := by
  simp only [ops9, hostOps1, List.take]
  after_results
  idx_vars i
  pointwise
  exact hA _
theorem s17 (i : S512x16x64.Idx) :
    StableHlo.after ops9 W (Proc.devRef .tc main_v17) i = if (i 2).val < 32 then -A (i 0).val ((i 1).val * 192 + (128 + (32 + (i 2).val)))
      else A (i 0).val ((i 1).val * 192 + (128 + ((i 2).val - 32))) := by
  simp only [ops9, hostOps1, List.take]
  after_results
  idx_vars i
  pointwise
  refine cases_read (fun h0 => ?_) (fun h0 => ?_)
  · exact congrArg Neg.neg (hA _)
  · exact (hA _)
omit hA in
theorem wide_at (U : Valuation τ sig (Elt Ideal))
    (e13 : ∀ i : S512x16x128.Idx, U (Proc.devRef .tc main_v13) i = A (i 0).val ((i 1).val * 192 + (i 2).val))
    (e11 : ∀ i : S512x16x64.Idx, U (Proc.devRef .tc main_v11) i = A (i 0).val ((i 1).val * 192 + (128 + (i 2).val)))
    (e12 : ∀ i : S512x16x64.Idx, U (Proc.devRef .tc main_v12) i = (0 : EReal))
    (e17 : ∀ i : S512x16x64.Idx, U (Proc.devRef .tc main_v17) i = if (i 2).val < 32 then -A (i 0).val ((i 1).val * 192 + (128 + (32 + (i 2).val)))
      else A (i 0).val ((i 1).val * 192 + (128 + ((i 2).val - 32)))) (i : S512x6144.Idx) :
    StableHlo.after (hostOps1.drop 9) U (Proc.devRef .tc main_v20) i =
      wq3 A (i 0).val (i 1).val := by
  simp only [hostOps1, List.drop]
  after_results
  idx_vars i
  pointwise
  unfold wq3
  refine cases_read (fun h0 => ?_) (fun h0 => cases_read (fun h1 => ?_) (fun h1 => cases_read (fun h2 => ?_) (fun h2 =>
    cases_read (fun h3 => ?_) (fun h3 => ?_))))
  · exact e13 _
  · exact e11 _
  · exact e12 _
  · exact e17 _
  · exact e12 _
theorem v20_at (i : S512x6144.Idx) :
    StableHlo.after hostOps1 W (Proc.devRef .tc main_v20) i =
      wq3 A (i 0).val (i 1).val := by
  exact wide_at A (StableHlo.after ops9 W) (s13 W A hA) (s11 W A hA) (s12 W) (s17 W A hA) i
end

/-- The widened input weights: the 1088 columns, then the last 64 of them rotated. -/
def winE (A : ℕ → ℕ → EReal) (k j : ℕ) : EReal :=
  if j < 1088 then A k j else
  if j - 1088 < 32 then -A k (1024 + (32 + (j - 1088))) else A k (1024 + (j - 1088 - 32))

/-- A table of 128 lanes: `f` of the angles, then zeros. -/
def tab (f : EReal → EReal) (l e : ℕ) : EReal := if e < 64 then f (ang2 l e) else 0

theorem v0_at (X : ℕ → ℕ → ℕ → EReal) (hX : ∀ i : S2x16384x2048.Idx, W (Proc.devRef .tc main_arg0) i = X (i 0).val (i 1).val (i 2).val)
    (i : S32768x2048.Idx) :
    StableHlo.after hostOps0 W (Proc.devRef .tc main_v0) i = X ((i 0).val / 16384) ((i 0).val % 16384) (i 1).val := by
  after_results
  idx_vars i
  pointwise
  exact hX _

theorem v8_at (G : ℕ → EReal) (hG : ∀ i : S2048.Idx, W (Proc.devRef .tc main_arg1) i = G (i 0).val)
    (i : S1x2048.Idx) :
    StableHlo.after hostOps0 W (Proc.devRef .tc main_v8) i = G (i 1).val := by
  after_results
  idx_vars i
  pointwise
  exact hG _

theorem v7_at (A : ℕ → ℕ → EReal) (hA : ∀ i : S2048x1088.Idx, W (Proc.devRef .tc main_arg2) i = A (i 0).val (i 1).val)
    (i : S2048x1152.Idx) :
    StableHlo.after hostOps0 W (Proc.devRef .tc main_v7) i = winE A (i 0).val (i 1).val := by
  after_results
  idx_vars i
  pointwise
  unfold winE
  refine cases_read (fun h0 => hA _) (fun h0 => cases_read (fun h1 => congrArg Neg.neg (hA _)) (fun h1 => hA _))

theorem v21_at (A : ℕ → ℕ → EReal) (hA : ∀ i : S512x4096.Idx, W (Proc.devRef .tc main_arg6) i = A (i 0).val (i 1).val)
    (i : S512x4096.Idx) :
    StableHlo.after hostOps1 W (Proc.devRef .tc main_v21) i = A (i 0).val (i 1).val := by
  after_results
  idx_vars i
  pointwise
  exact hA _

theorem v42_at (i : S16384x128.Idx) :
    StableHlo.after hostOps1 W (Proc.devRef .tc main_v42) i = tab Ideal.cos (i 0).val (i 1).val := by
  after_results
  idx_vars i
  pointwise
  unfold tab ang2 ang
  exact cases_read (fun h0 => congrArg Ideal.cos (cases_read (fun h1 => rfl) (fun h1 => rfl))) (fun h0 => rfl)

theorem v44_at (i : S16384x128.Idx) :
    StableHlo.after hostOps1 W (Proc.devRef .tc main_v44) i = tab Ideal.sin (i 0).val (i 1).val := by
  after_results
  idx_vars i
  pointwise
  unfold tab ang2 ang
  exact cases_read (fun h0 => congrArg Ideal.sin (cases_read (fun h1 => rfl) (fun h1 => rfl))) (fun h0 => rfl)

theorem v46_at (i : S16384x128.Idx) :
    StableHlo.after hostOps1 W (Proc.devRef .tc main_v46) i = tab Ideal.cos (i 0).val (i 1).val * Ideal.ofBits .f32 0x3D93CD3A#32 := by
  after_results
  idx_vars i
  pointwise
  unfold tab ang2 ang
  exact congrArg (· * _) (cases_read (fun h0 => congrArg Ideal.cos (cases_read (fun h1 => rfl) (fun h1 => rfl))) (fun h0 => rfl))

theorem v48_at (i : S16384x128.Idx) :
    StableHlo.after hostOps1 W (Proc.devRef .tc main_v48) i = tab Ideal.sin (i 0).val (i 1).val * Ideal.ofBits .f32 0x3D93CD3A#32 := by
  after_results
  idx_vars i
  pointwise
  unfold tab ang2 ang
  exact congrArg (· * _) (cases_read (fun h0 => congrArg Ideal.sin (cases_read (fun h1 => rfl) (fun h1 => rfl))) (fun h0 => rfl))

theorem v49_at (G : ℕ → EReal) (hG : ∀ i : S512.Idx, W (Proc.devRef .tc main_arg3) i = G (i 0).val)
    (i : S1x512.Idx) :
    StableHlo.after hostOps1 W (Proc.devRef .tc main_v49) i = G (i 1).val := by
  after_results
  idx_vars i
  pointwise
  exact hG _

theorem v50_at (G : ℕ → EReal) (hG : ∀ i : S512.Idx, W (Proc.devRef .tc main_arg5) i = G (i 0).val)
    (i : S1x512.Idx) :
    StableHlo.after hostOps1 W (Proc.devRef .tc main_v50) i = G (i 1).val := by
  after_results
  idx_vars i
  pointwise
  exact hG _

theorem v53_at (X : ℕ → ℕ → ℕ → EReal) (hX : ∀ i : S2x16384x2048.Idx, W (Proc.devRef .tc main_v52) i = X (i 0).val (i 1).val (i 2).val)
    (i : S32768x2048.Idx) :
    StableHlo.after hostOps3 W (Proc.devRef .tc main_v53) i = X ((i 0).val / 16384) ((i 0).val % 16384) (i 1).val := by
  after_results
  idx_vars i
  pointwise
  exact hX _

theorem v54_at (A : ℕ → ℕ → EReal) (hA : ∀ i : S2048x2048.Idx, W (Proc.devRef .tc main_arg7) i = A (i 0).val (i 1).val)
    (i : S2048x2048.Idx) :
    StableHlo.after hostOps3 W (Proc.devRef .tc main_v54) i = A (i 0).val (i 1).val := by
  after_results
  idx_vars i
  pointwise
  exact hA _

theorem v56_at (A : ℕ → ℕ → EReal) (hA : ∀ i : S32768x2048.Idx, W (Proc.devRef .tc main_v55) i = A (i 0).val (i 1).val)
    (i : S2x16384x2048.Idx) :
    StableHlo.after hostOps4 W (Proc.devRef .tc main_v56) i = A ((i 0).val * 16384 + (i 1).val) (i 2).val := by
  after_results
  idx_vars i
  pointwise
  exact hA _

end Cert.KernelIdeal.Host

end
-- ==== Proof.Math.lean ====
/- The block in real numbers: every intermediate of the latent attention from real weights, and the two ways of
   writing its scores. -/
module

public import proofs.«01_k».proof.Proof.Qkv3
public import proofs.«01_k».proof.Proof.Attn2
public import proofs.«01_k».proof.Proof.Host

@[expose] public section

noncomputable section

open Idealize.ShloMosaic
open scoped BigOperators

namespace Cert.Block

open Cert.RealLemmas Cert.KernelIdeal.Reg Cert.KernelIdeal.Host Cert.KernelIdeal.Attn

/-- The width 2048, as both programs divide by it. -/
abbrev D2048 : EReal := Ideal.ofBits .f32 0x45000000#32
/-- The width 512, as both programs divide by it. -/
abbrev D512 : EReal := Ideal.ofBits .f32 0x44000000#32
/-- The attention scale, as both programs multiply by it. -/
abbrev SCALE : EReal := Ideal.ofBits .f32 0x3D93CD3A#32

theorem d2048_eq : D2048 = ((2048 : ℝ) : EReal) := by
  simp [D2048, Ideal.ofBits, Ideal.ieee]; rw [← EReal.coe_mul]; norm_num
theorem d512_eq : D512 = ((512 : ℝ) : EReal) := by
  simp [D512, Ideal.ofBits, Ideal.ieee]; rw [← EReal.coe_mul]; norm_num
theorem eps_pos : ∃ e : ℝ, 0 < e ∧ Ideal.ofBits .f32 0x358637BD#32 = (e : EReal) := by
  simp [Ideal.ofBits, Ideal.ieee]; rw [← EReal.coe_mul]
  exact ⟨_, by positivity, rfl⟩

/-- The scale as a real number. -/
def scl : ℝ := SCALE.toReal
theorem scale_eq : SCALE = (scl : EReal) := isR_scale.eq

/-- A normalized entry of a row of reals is real. -/
theorem isR_rms (n : ℕ) (d : EReal) (D : ℝ) (hd : d = (D : EReal)) (hD : 0 < D) (X g : ℕ → ℝ) (k : ℕ) :
    IsR (rms n d (fun j => (X j : EReal)) (fun j => (g j : EReal)) k) := by
  obtain ⟨e, he, hE⟩ := eps_pos
  unfold rms
  refine ((IsR.coe _).mul (IsR.rsqrt ?_ ?_)).mul (IsR.coe _)
  · rw [hE, hd]
    refine (IsR.div (IsR.sum _ _ fun j => (IsR.coe _).mul (IsR.coe _)) (IsR.coe _) ?_).add (IsR.coe _)
    exact_mod_cast hD.ne'
  · rw [hE, hd]
    have : (∑ j : Fin n, (X j.val : EReal) * (X j.val : EReal)) = ((∑ j : Fin n, X j.val * X j.val : ℝ) : EReal) := by
      rw [coe_sum]; exact Finset.sum_congr rfl fun j _ => (EReal.coe_mul _ _).symm
    rw [this, div_coe_coe _ hD.ne', ← EReal.coe_add]
    have h0 : 0 ≤ ∑ j : Fin n, X j.val * X j.val := Finset.sum_nonneg fun j _ => mul_self_nonneg _
    have : 0 < (∑ j : Fin n, X j.val * X j.val) / D + e := by positivity
    exact_mod_cast this
/-- A square of an infinity is infinite. -/
theorem sq_top {x : EReal} (h : ¬ IsR x) : x * x = ⊤ := by
  induction x using EReal.rec with
  | bot => exact EReal.bot_mul_bot
  | coe r => exact absurd (IsR.coe r) h
  | top => exact EReal.top_mul_top
/-- A square is not negative. -/
theorem sq_nonneg' (x : EReal) : 0 ≤ x * x := by
  by_cases h : IsR x
  · obtain ⟨r, rfl⟩ := h
    rw [← EReal.coe_mul]; exact_mod_cast mul_self_nonneg r
  · rw [sq_top h]; exact le_top
/-- The entries of a row over its root mean square are real even where the row is infinite: the mean square is then
    infinite too, and its inverse root is zero. -/
theorem isR_rmsE (n : ℕ) (d : EReal) (D : ℝ) (hd : d = (D : EReal)) (hD : 0 < D) (X : ℕ → EReal) (g : ℕ → ℝ) (k : ℕ) (hk : k < n) :
    IsR (rms n d X (fun j => (g j : EReal)) k) := by
  by_cases h : ∀ j : Fin n, IsR (X j.val)
  · have e : rms n d X (fun j => (g j : EReal)) k = rms n d (fun j => ((X j).toReal : EReal)) (fun j => (g j : EReal)) k := by
      have hX : ∀ j : Fin n, ((X j.val).toReal : EReal) = X j.val := fun j => (h j).eq.symm
      have hk' : ((X k).toReal : EReal) = X k := hX ⟨k, hk⟩
      unfold rms
      simp only [hX, hk']
    rw [e]; exact isR_rms n d D hd hD _ g k
  · obtain ⟨j, hj⟩ := not_forall.mp h
    have hs : (∑ j : Fin n, X j.val * X j.val) = ⊤ := by
      refine top_le_iff.mp ?_
      rw [← sq_top hj]
      exact Finset.single_le_sum (f := fun j : Fin n => X j.val * X j.val) (fun j _ => sq_nonneg' _) (Finset.mem_univ j)
    obtain ⟨e, he, hE⟩ := eps_pos
    unfold rms
    rw [hs, hd, hE, Ideal.div_coe hD.ne', EReal.top_mul_coe_of_pos (by positivity), EReal.top_add_coe, Ideal.rsqrt_top, mul_zero, zero_mul]
    exact IsR.zero
/-- The normalized entry as a real number. -/
def rmsR (n : ℕ) (d : EReal) (X : ℕ → EReal) (g : ℕ → ℝ) (k : ℕ) : ℝ :=
  (rms n d X (fun j => (g j : EReal)) k).toReal
theorem rms2048 (X : ℕ → EReal) (g : ℕ → ℝ) (k : ℕ) (hk : k < 2048) :
    rms 2048 D2048 X (fun j => (g j : EReal)) k = (rmsR 2048 D2048 X g k : EReal) :=
  (isR_rmsE 2048 D2048 2048 d2048_eq (by norm_num) X g k hk).eq
theorem rms512 (X g : ℕ → ℝ) (k : ℕ) :
    rms 512 D512 (fun j => (X j : EReal)) (fun j => (g j : EReal)) k = (rmsR 512 D512 (fun j => (X j : EReal)) g k : EReal) :=
  (isR_rms 512 D512 512 d512_eq (by norm_num) X g k).eq

/-- A product of two rows of reals. -/
theorem dot_coe {n : ℕ} (a b : Fin n → ℝ) : (∑ k : Fin n, (a k : EReal) * (b k : EReal)) = ((∑ k : Fin n, a k * b k : ℝ) : EReal) := by
  rw [coe_sum]; exact Finset.sum_congr rfl fun k _ => (EReal.coe_mul _ _).symm

/-- The integer of a position, read as a float, is real. -/
theorem isR_sitofp (l : ℕ) : IsR (FloatOps.sitofp FTy.f32 (BitVec.ofNat 32 l) : Ideal .f32) := ⟨_, rfl⟩
/-- Every angle is real. -/
theorem isR_ang (l f : ℕ) : IsR (ang l f) := by
  unfold ang
  have h1 : IsR (Ideal.ofBits FTy.f32 0x461C4000#32) := by
    simp only [Ideal.ofBits, Ideal.ieee]; norm_num; exact ⟨_, by norm_cast⟩
  have h2 : IsR (Ideal.ofBits FTy.f32 0x40000000#32) := by
    simp only [Ideal.ofBits, Ideal.ieee]; norm_num; exact ⟨_, by norm_cast⟩
  have h3 : Ideal.ofBits FTy.f32 0x42800000#32 = ((64 : ℝ) : EReal) := by
    simp [Ideal.ofBits, Ideal.ieee]; rw [← EReal.coe_mul]; norm_num
  have h4 : Ideal.ofBits FTy.f32 0x461C4000#32 = ((10000 : ℝ) : EReal) := by
    simp [Ideal.ofBits, Ideal.ieee]; rw [← EReal.coe_mul]; norm_num
  have hd : IsR (Ideal.div (Ideal.ofBits FTy.f32 0x40000000#32 * (FloatOps.sitofp FTy.f32 (BitVec.ofNat 32 f) : Ideal .f32))
      (Ideal.ofBits FTy.f32 0x42800000#32)) := by
    rw [h3]
    exact IsR.div (h2.mul (isR_sitofp f)) (IsR.coe _) (by exact_mod_cast (by norm_num : (64 : ℝ) ≠ 0))
  obtain ⟨y, hy⟩ := hd
  rw [hy, h4, Ideal.pow_coe_coe]
  refine (isR_sitofp l).mul (IsR.div IsR.one (IsR.coe _) ?_)
  have : (10000 : ℝ) ^ y ≠ 0 := (Real.rpow_pos_of_pos (by norm_num) y).ne'
  exact_mod_cast this
theorem isR_ang2 (l e : ℕ) : IsR (ang2 l e) := by
  unfold ang2; split <;> exact isR_ang _ _
/-- The cosine table, in reals. -/
def cosR (l e : ℕ) : ℝ := (Ideal.cos (ang2 l e)).toReal
/-- The sine table, in reals. -/
def sinR (l e : ℕ) : ℝ := (Ideal.sin (ang2 l e)).toReal
theorem cos_eq (l e : ℕ) : Ideal.cos (ang2 l e) = (cosR l e : EReal) := (isR_ang2 l e).cos.eq
theorem sin_eq (l e : ℕ) : Ideal.sin (ang2 l e) = (sinR l e : EReal) := (isR_ang2 l e).sin.eq
/-- A table of 128 lanes in reals: the 64, then zeros. -/
def pad (f : ℕ → ℕ → ℝ) (l e : ℕ) : ℝ := if e < 64 then f l e else 0
theorem tab_cos (l e : ℕ) : tab Ideal.cos l e = (pad cosR l e : EReal) := by
  unfold tab pad; split
  · exact cos_eq l e
  · rfl
theorem tab_sin (l e : ℕ) : tab Ideal.sin l e = (pad sinR l e : EReal) := by
  unfold tab pad; split
  · exact sin_eq l e
  · rfl

section
variable (x : ℕ → ℕ → ℕ → EReal) (g : ℕ → ℝ) (win : ℕ → ℕ → ℝ) (qg : ℕ → ℝ) (wu : ℕ → ℕ → ℝ) (kg : ℕ → ℝ) (wkv : ℕ → ℕ → ℝ)

/-- The compressed row, from the normalized input. -/
def c0 (b l j : ℕ) : ℝ := ∑ k : Fin 2048, rmsR 2048 D2048 (x b l) g k.val * win k.val j
/-- The compressed row with its last 64 entries rotated after it. -/
def cx (b l j : ℕ) : ℝ :=
  if j < 1088 then c0 x g win b l j else
  if j - 1088 < 32 then -c0 x g win b l (1024 + (32 + (j - 1088))) else c0 x g win b l (1024 + (j - 1088 - 32))
/-- The normalized query latent. -/
def cq (b l k : ℕ) : ℝ := rmsR 512 D512 (fun j => (cx x g win b l j : EReal)) qg k
/-- The normalized key and value latent. -/
def ck (b l k : ℕ) : ℝ := rmsR 512 D512 (fun j => (cx x g win b l (512 + j) : EReal)) kg k
/-- The query of one head: 128 plain entries, then 64 that take a position. -/
def qv (b l h e : ℕ) : ℝ := ∑ k : Fin 512, cq x g win qg b l k.val * wu k.val (h * 192 + e)
/-- The key and value of one head: 128 entries of each. -/
def kv (b l h e : ℕ) : ℝ := ∑ k : Fin 512, ck x g win kg b l k.val * wkv k.val (h * 256 + e)
/-- The rotation of a pair of halves of 32. -/
def rot (f : ℕ → ℝ) (e : ℕ) : ℝ := if e < 32 then -f (32 + e) else f (e - 32)
/-- The query's 64 entries, turned by the position. -/
def qr (b l h e : ℕ) : ℝ :=
  qv x g win qg wu b l h (128 + e) * cosR l e + rot (fun e => qv x g win qg wu b l h (128 + e)) e * sinR l e
/-- The key's 64 entries, turned by the position, shared by the heads. -/
def kr (b l e : ℕ) : ℝ :=
  cx x g win b l (1024 + e) * cosR l e + rot (fun e => cx x g win b l (1024 + e)) e * sinR l e
/-- The score of a query against a key. -/
def score (b h r j : ℕ) : ℝ :=
  (∑ d : Fin 128, qv x g win qg wu b r h d.val * kv x g win kg wkv b j h d.val)
    + ∑ e : Fin 64, qr x g win qg wu b r h e.val * kr x g win b j e.val
/-- The attention's result. -/
def out (b r h d : ℕ) : ℝ :=
  (∑ j ∈ Finset.range 16384, Real.exp (score x g win qg wu kg wkv b h r j * scl) * kv x g win kg wkv b j h (128 + d))
    / ∑ j ∈ Finset.range 16384, Real.exp (score x g win qg wu kg wkv b h r j * scl)
end

end Cert.Block

end
-- ==== Proof.Scores.lean ====
/- What the kernel's widened rows hold, in real numbers, and that their products are the scaled scores. -/
module

public import proofs.«01_k».proof.Proof.Math

@[expose] public section

noncomputable section

open Idealize.ShloMosaic
open scoped BigOperators

namespace Cert.Block

open Cert.RealLemmas Cert.KernelIdeal.Reg Cert.KernelIdeal.Host Cert.KernelIdeal.Attn

/-- Real arrays read as extended reals. -/
abbrev up1 (f : ℕ → ℝ) : ℕ → EReal := fun k => (f k : EReal)
/-- Real matrices read as extended reals. -/
abbrev up2 (f : ℕ → ℕ → ℝ) : ℕ → ℕ → EReal := fun k j => (f k j : EReal)

/-- The widened query weights, in reals. -/
def wq3R (A : ℕ → ℕ → ℝ) (k j : ℕ) : ℝ := (wq3 (up2 A) k j).toReal
theorem wq3_coe (A : ℕ → ℕ → ℝ) (k j : ℕ) : wq3 (up2 A) k j = (wq3R A k j : EReal) := by
  refine IsR.eq ?_
  unfold wq3
  repeat' split
  all_goals first
    | exact IsR.coe _
    | exact IsR.zero
    | exact (IsR.coe _).neg
/-- The widened weights' plain columns. -/
theorem wq3R_plain (A : ℕ → ℕ → ℝ) (k h e : ℕ) (he : e < 128) : wq3R A k (384 * h + e) = A k (h * 192 + e) := by
  unfold wq3R wq3
  have h1 : (384 * h + e) % 384 = e := by omega
  have h2 : (384 * h + e) / 384 = h := by omega
  rw [h1, h2, if_pos he]; rfl
/-- The widened weights' position columns. -/
theorem wq3R_pos (A : ℕ → ℕ → ℝ) (k h e : ℕ) (he : e < 64) : wq3R A k (384 * h + (128 + e)) = A k (h * 192 + (128 + e)) := by
  unfold wq3R wq3
  have h1 : (384 * h + (128 + e)) % 384 = 128 + e := by omega
  have h2 : (384 * h + (128 + e)) / 384 = h := by omega
  rw [h1, h2, if_neg (by omega), if_pos (by omega), show 128 + e - 128 = e by omega]; rfl
/-- The widened weights' rotated columns. -/
theorem wq3R_rot (A : ℕ → ℕ → ℝ) (k h e : ℕ) (he : e < 64) :
    wq3R A k (384 * h + (128 + (128 + e))) = rot (fun e => A k (h * 192 + (128 + e))) e := by
  unfold wq3R wq3 rot
  have h1 : (384 * h + (128 + (128 + e))) % 384 = 128 + (128 + e) := by omega
  have h2 : (384 * h + (128 + (128 + e))) / 384 = h := by omega
  rw [h1, h2, if_neg (by omega), if_neg (by omega), if_neg (by omega), if_pos (by omega),
    show 128 + (128 + e) - 128 - 64 - 64 = e by omega]
  split
  · exact congrArg EReal.toReal (EReal.coe_neg _).symm
  · rfl

/-- A sum over 256 lanes whose last 64 are zero. -/
theorem sum256 (f : ℕ → ℝ) (h0 : ∀ e, 64 ≤ e → f (128 + e) = 0) :
    ∑ d : Fin 256, f d.val = (∑ d : Fin 128, f d.val) + ∑ e : Fin 64, f (128 + e.val) := by
  rw [Fin.sum_univ_eq_sum_range f 256, Fin.sum_univ_eq_sum_range f 128, Fin.sum_univ_eq_sum_range (fun e => f (128 + e)) 64,
    show 256 = 128 + (64 + 64) from rfl, Finset.sum_range_add, Finset.sum_range_add]
  rw [show ∑ x ∈ Finset.range 64, f (128 + (64 + x)) = 0 from Finset.sum_eq_zero fun x _ => h0 _ (by omega), add_zero]

section
variable (x : ℕ → ℕ → ℕ → EReal) (g : ℕ → ℝ) (win : ℕ → ℕ → ℝ) (qg : ℕ → ℝ) (wu : ℕ → ℕ → ℝ) (kg : ℕ → ℝ) (wkv : ℕ → ℕ → ℝ)

/-- The kernel's query rows. -/
def qK (b h l e : ℕ) : ℝ :=
  if e < 128 then (∑ k : Fin 512, cq x g win qg b l k.val * wq3R wu k.val (384 * h + e)) * scl else
  (∑ k : Fin 512, cq x g win qg b l k.val * wq3R wu k.val (384 * h + e)) * (pad cosR l (e - 128) * scl)
    + (∑ k : Fin 512, cq x g win qg b l k.val * wq3R wu k.val (384 * h + (128 + e))) * (pad sinR l (e - 128) * scl)
/-- The kernel's key rows. -/
def kK (b h l e : ℕ) : ℝ :=
  if e < 128 then ∑ k : Fin 512, ck x g win kg b l k.val * wkv k.val (256 * h + e) else
  cx x g win b l (1024 + (e - 128)) * pad cosR l (e - 128) + cx x g win b l (1024 + (e - 128 + 128 - 64) % 128) * pad sinR l (e - 128)
/-- The kernel's value rows. -/
def vK (b h l e : ℕ) : ℝ :=
  if e < 128 then ∑ k : Fin 512, ck x g win kg b l k.val * wkv k.val (256 * h + (128 + e)) else if e = 128 then 1 else 0

theorem qK_plain (b h l e : ℕ) (he : e < 128) : qK x g win qg wu b h l e = qv x g win qg wu b l h e * scl := by
  unfold qK qv
  rw [if_pos he]
  exact congrArg (· * scl) (Finset.sum_congr rfl fun k _ => by rw [wq3R_plain _ _ _ _ he])
theorem qK_pos (b h l e : ℕ) (he : e < 64) : qK x g win qg wu b h l (128 + e) = qr x g win qg wu b l h e * scl := by
  have e1 : (∑ k : Fin 512, cq x g win qg b l k.val * wq3R wu k.val (384 * h + (128 + e))) = qv x g win qg wu b l h (128 + e) :=
    Finset.sum_congr rfl fun k _ => by rw [wq3R_pos _ _ _ _ he]
  have e2 : (∑ k : Fin 512, cq x g win qg b l k.val * wq3R wu k.val (384 * h + (128 + (128 + e))))
      = rot (fun e => qv x g win qg wu b l h (128 + e)) e := by
    unfold rot qv
    by_cases hc : e < 32
    · rw [if_pos hc, ← Finset.sum_neg_distrib]
      refine Finset.sum_congr rfl fun k _ => ?_
      rw [wq3R_rot _ _ _ _ he, rot, if_pos hc, mul_neg]
    · rw [if_neg hc]
      refine Finset.sum_congr rfl fun k _ => ?_
      rw [wq3R_rot _ _ _ _ he, rot, if_neg hc]
  unfold qK qr
  rw [if_neg (by omega), e1, e2, show 128 + e - 128 = e by omega, pad, pad, if_pos he, if_pos he]
  ring
theorem kK_plain (b h l e : ℕ) (he : e < 128) : kK x g win kg wkv b h l e = kv x g win kg wkv b l h e := by
  unfold kK kv
  rw [if_pos he, mul_comm 256 h]
theorem kK_pos (b h l e : ℕ) (he : e < 64) : kK x g win kg wkv b h l (128 + e) = kr x g win b l e := by
  unfold kK kr
  rw [if_neg (by omega), show 128 + e - 128 = e by omega, pad, pad, if_pos he, if_pos he,
    show 1024 + (e + 128 - 64) % 128 = 1024 + (64 + e) by omega]
  congr 2
  unfold rot cx
  rw [if_neg (by omega), show 1024 + (64 + e) - 1088 = e by omega]
  by_cases hc : e < 32
  · rw [if_pos hc, if_pos hc]; exact congrArg Neg.neg (if_pos (by omega)).symm
  · rw [if_neg hc, if_neg hc]; exact (if_pos (by omega)).symm
theorem kK_zero (b h l e : ℕ) (he : 64 ≤ e) : kK x g win kg wkv b h l (128 + e) = 0 := by
  unfold kK
  rw [if_neg (by omega), show 128 + e - 128 = e by omega, pad, pad, if_neg (by omega), if_neg (by omega), mul_zero, mul_zero, add_zero]
/-- The product of the kernel's query and key rows is the scaled score. -/
theorem score_eq (b h r j : ℕ) :
    (∑ d : Fin 256, qK x g win qg wu b h r d.val * kK x g win kg wkv b h j d.val) = score x g win qg wu kg wkv b h r j * scl := by
  rw [sum256 (fun d => qK x g win qg wu b h r d * kK x g win kg wkv b h j d) fun e he => by rw [kK_zero _ _ _ _ _ _ _ _ _ he, mul_zero]]
  unfold score
  rw [add_mul, Finset.sum_mul, Finset.sum_mul]
  congr 1
  · refine Finset.sum_congr rfl fun d _ => ?_
    rw [qK_plain _ _ _ _ _ _ _ _ _ d.isLt, kK_plain _ _ _ _ _ _ _ _ _ d.isLt]; ring
  · refine Finset.sum_congr rfl fun e _ => ?_
    rw [qK_pos _ _ _ _ _ _ _ _ _ e.isLt, kK_pos _ _ _ _ _ _ _ _ _ e.isLt]; ring
theorem vK_value (b h l d : ℕ) (hd : d < 128) : vK x g win kg wkv b h l d = kv x g win kg wkv b l h (128 + d) := by
  unfold vK kv
  rw [if_pos hd, mul_comm 256 h]
theorem vK_one (b h l : ℕ) : vK x g win kg wkv b h l 128 = 1 := by
  unfold vK; rw [if_neg (by omega), if_pos rfl]
/-- The kernel's attention is the block's. -/
theorem attn_eq (b h r d : ℕ) (hd : d < 128) :
    attn (qK x g win qg wu) (kK x g win kg wkv) (vK x g win kg wkv) b h r d = out x g win qg wu kg wkv b r h d := by
  unfold attn out
  simp only [score_eq, vK_value _ _ _ _ _ _ _ _ _ hd]
end

end Cert.Block

end
-- ==== Proof.Run.lean ====
/- The whole run of the four calls, with the contents of the result. -/
module

public import proofs.«01_k».proof.Proof.Gen.KernelIdeal.Frame

@[expose] public section

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result holding the last boundary's contents and the arguments as launched. -/
theorem run : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Reg

end
-- ==== Proof.Chain.lean ====
/- The contents of the result after the four calls, from real arguments. -/
module

public import proofs.«01_k».proof.Proof.Scores
public import proofs.«01_k».proof.Proof.Run

@[expose] public section

set_option maxRecDepth 16384

noncomputable section

open Idealize.ShloMosaic Idealize.ShloMosaic.TcCoe
open scoped BigOperators

namespace Cert.Block

open Cert.KernelIdeal Cert.KernelIdeal.Gen
open Cert.RealLemmas Cert.KernelIdeal.Reg Cert.KernelIdeal.Host Cert.KernelIdeal.Attn

section
variable (x : ℕ → ℕ → ℕ → EReal) (g : ℕ → ℝ) (win : ℕ → ℕ → ℝ) (qg : ℕ → ℝ) (wu : ℕ → ℕ → ℝ) (kg : ℕ → ℝ) (wkv : ℕ → ℕ → ℝ)

/-- The first call's rows are the compressed rows. -/
theorem first_eq (b l j : ℕ) :
    (∑ k : Fin 2048, rms 2048 D2048 ((x b l)) (up1 g) k.val * winE (up2 win) k.val j) = (cx x g win b l j : EReal) := by
  have base : ∀ j, (∑ k : Fin 2048, rms 2048 D2048 ((x b l)) (up1 g) k.val * (win k.val j : EReal)) = (c0 x g win b l j : EReal) := fun j => by
    refine Eq.trans (Finset.sum_congr rfl fun k _ => ?_) (dot_coe _ _)
    rw [rms2048 _ _ _ k.isLt]
  unfold winE cx
  by_cases h1 : j < 1088
  · simp only [if_pos h1]; exact base _
  by_cases h2 : j - 1088 < 32
  · simp only [if_neg h1, if_pos h2]
    rw [EReal.coe_neg, ← base]
    have e : ∀ k : Fin 2048, rms 2048 D2048 ((x b l)) (up1 g) k.val * -(win k.val (1024 + (32 + (j - 1088))) : EReal)
        = ((-(rmsR 2048 D2048 (x b l) g k.val * win k.val (1024 + (32 + (j - 1088)))) : ℝ) : EReal) := fun k => by
      rw [rms2048 _ _ _ k.isLt, ← EReal.coe_neg, ← EReal.coe_mul, mul_neg]
    rw [base]
    refine (Finset.sum_congr rfl fun k _ => e k).trans ?_
    rw [← coe_sum, Finset.sum_neg_distrib, EReal.coe_neg]; rfl
  · simp only [if_neg h1, if_neg h2]; exact base _

/-- The second call's queries. -/
theorem q_eq (b l h e : ℕ) (N A B : ℕ → ℕ → EReal) (t : ℕ) (hN : ∀ k, N t k = (cq x g win qg b l k : EReal))
    (hA : ∀ e, A l e = (pad cosR l e : EReal) * SCALE) (hB : ∀ e, B l e = (pad sinR l e : EReal) * SCALE) :
    qf N (wq3 (up2 wu)) A B t l h e = (qK x g win qg wu b h l e : EReal) := by
  have base : ∀ j, (∑ k : Fin 512, N t k.val * wq3 (up2 wu) k.val j) = ((∑ k : Fin 512, cq x g win qg b l k.val * wq3R wu k.val j : ℝ) : EReal) :=
    fun j => by
      refine Eq.trans (Finset.sum_congr rfl fun k _ => ?_) (dot_coe _ _)
      rw [hN, wq3_coe]
  unfold qf qK
  by_cases h1 : e < 128
  · rw [if_pos h1, if_pos h1, base, EReal.coe_mul, ← scale_eq]
  · rw [if_neg h1, if_neg h1, base, base, hA, hB, scale_eq, EReal.coe_add, EReal.coe_mul, EReal.coe_mul, EReal.coe_mul, EReal.coe_mul]

/-- The second call's keys. -/
theorem k_eq (b l h e : ℕ) (N H : ℕ → ℕ → EReal) (hN : ∀ k, N l k = (ck x g win kg b l k : EReal))
    (hH : ∀ e, H l e = (cx x g win b l (1024 + e) : EReal) * (pad cosR l e : EReal)
      + (cx x g win b l (1024 + (e + 128 - 64) % 128) : EReal) * (pad sinR l e : EReal)) :
    kf N (up2 wkv) H l h e = (kK x g win kg wkv b h l e : EReal) := by
  unfold kf kK
  by_cases h1 : e < 128
  · rw [if_pos h1, if_pos h1]
    refine Eq.trans (Finset.sum_congr rfl fun k _ => ?_) (dot_coe _ _)
    rw [hN]
  · rw [if_neg h1, if_neg h1, hH, EReal.coe_add, EReal.coe_mul, EReal.coe_mul]

/-- The second call's values. -/
theorem v_eq (b l h e : ℕ) (N : ℕ → ℕ → EReal) (hN : ∀ k, N l k = (ck x g win kg b l k : EReal)) :
    vf N (up2 wkv) l h e = (vK x g win kg wkv b h l e : EReal) := by
  unfold vf vK
  by_cases h1 : e < 128
  · rw [if_pos h1, if_pos h1]
    refine Eq.trans (Finset.sum_congr rfl fun k _ => ?_) (dot_coe _ _)
    rw [hN]
  · rw [if_neg h1, if_neg h1]
    split <;> rfl
end

section
variable (m : (ℓ : Loc nD τ sig) → Buf (Elt Ideal) ℓ) (ρ : Dev nD → PrngReg) (c : Dev nD)
variable (x : ℕ → ℕ → ℕ → EReal) (g : ℕ → ℝ) (win : ℕ → ℕ → ℝ) (qg : ℕ → ℝ) (wu : ℕ → ℕ → ℝ) (kg : ℕ → ℝ) (wkv : ℕ → ℕ → ℝ)
  (wo : ℕ → ℕ → EReal)
  (h0 : ∀ i : S2x16384x2048.Idx, m ((c : Thread nD τ).loc main_arg0) i = x (i 0).val (i 1).val (i 2).val)
  (h1 : ∀ i : S2048.Idx, m ((c : Thread nD τ).loc main_arg1) i = (g (i 0).val : EReal))
  (h2 : ∀ i : S2048x1088.Idx, m ((c : Thread nD τ).loc main_arg2) i = (win (i 0).val (i 1).val : EReal))
  (h3 : ∀ i : S512.Idx, m ((c : Thread nD τ).loc main_arg3) i = (qg (i 0).val : EReal))
  (h4 : ∀ i : S512x3072.Idx, m ((c : Thread nD τ).loc main_arg4) i = (wu (i 0).val (i 1).val : EReal))
  (h5 : ∀ i : S512.Idx, m ((c : Thread nD τ).loc main_arg5) i = (kg (i 0).val : EReal))
  (h6 : ∀ i : S512x4096.Idx, m ((c : Thread nD τ).loc main_arg6) i = (wkv (i 0).val (i 1).val : EReal))
  (h7 : ∀ i : S2048x2048.Idx, m ((c : Thread nD τ).loc main_arg7) i = wo (i 0).val (i 1).val)

include h0 in
/-- The input's rows, as the calls read them. -/
theorem in_rows (i : S32768x2048.Idx) :
    W1 m ρ c (Proc.devRef .tc main_v0) i = x ((i 0).val / 16384) ((i 0).val % 16384) (i 1).val :=
  v0_at (W0 m ρ c) x h0 i

include h0 h1 h2 in
/-- The first call's result. -/
theorem w2_v9 (i : S32768x1152.Idx) :
    W2 m ρ c (Proc.devRef .tc main_v9) i = (cx x g win ((i 0).val / 16384) ((i 0).val % 16384) (i 1).val : EReal) := by
  refine (congrFun (W2_arr m ρ c 3) i).trans ?_
  rw [final0 (V1 m ρ) (fun t => x (t / 16384) (t % 16384)) (winE (up2 win)) (up1 g) c (in_rows m ρ c x h0)
    (v8_at (W0 m ρ c) (up1 g) h1) (v7_at (W0 m ρ c) (up2 win) h2)]
  exact first_eq x g win _ _ _

include h0 h1 h2 in
/-- The first call's result, as the second call finds it. -/
theorem w3_v9 (i : S32768x1152.Idx) :
    V3 m ρ c main_v9 i = (cx x g win ((i 0).val / 16384) ((i 0).val % 16384) (i 1).val : EReal) :=
  (congrFun (W3_of m ρ c main_v9 (by decide)) i).trans (w2_v9 m ρ c x g win h0 h1 h2 i)

include h0 h1 h2 h3 h4 in
/-- The queries, as the third call finds them. -/
theorem w4_q (i : S2x16x16384x256.Idx) :
    V4 m ρ c main_v51_0 i = (qK x g win qg wu (i 0).val (i 1).val (i 2).val (i 3).val : EReal) := by
  refine (congrFun (W4_arr m ρ c 9) i).trans ?_
  rw [final1q (V3 m ρ) (fun t j => (cx x g win (t / 16384) (t % 16384) j : EReal)) (wq3 (up2 wu))
    (fun l e => tab Ideal.cos l e * SCALE) (fun l e => tab Ideal.sin l e * SCALE) (up1 qg) c (w3_v9 m ρ c x g win h0 h1 h2)
    (v49_at (W2 m ρ c) (up1 qg) fun i => (congrFun (W2_args m ρ c main_arg3 (by decide)) i).trans (h3 i))
    (v20_at (W2 m ρ c) (up2 wu) fun i => (congrFun (W2_args m ρ c main_arg4 (by decide)) i).trans (h4 i))
    (v46_at (W2 m ρ c)) (v48_at (W2 m ρ c))]
  have hl : (i 2).val < 16384 := (i 2).isLt
  refine q_eq x g win qg wu _ _ _ _ _ _ _ _ (fun k => ?_) (fun e => ?_) (fun e => ?_)
  · have e1 : ((i 0).val * 16384 + (i 2).val) / 16384 = (i 0).val := by omega
    have e2 : ((i 0).val * 16384 + (i 2).val) % 16384 = (i 2).val := by omega
    show rms 512 D512 (fun j => (cx x g win (((i 0).val * 16384 + (i 2).val) / 16384) (((i 0).val * 16384 + (i 2).val) % 16384) j : EReal))
      (fun j => (qg j : EReal)) k = _
    rw [e1, e2]; exact rms512 _ _ _
  · show tab Ideal.cos _ e * SCALE = _; rw [tab_cos]
  · show tab Ideal.sin _ e * SCALE = _; rw [tab_sin]

/-- The key and value latent, at a position. -/
theorem latent (b l k : ℕ) (hl : l < 16384) :
    rms 512 D512 (fun j => (cx x g win ((b * 16384 + l) / 16384) ((b * 16384 + l) % 16384) (512 + j) : EReal)) (up1 kg) k
      = (ck x g win kg b l k : EReal) := by
  rw [show (b * 16384 + l) / 16384 = b by omega, show (b * 16384 + l) % 16384 = l by omega]
  exact rms512 (fun j => cx x g win b l (512 + j)) kg k

include h0 h1 h2 h5 h6 in
/-- The keys, as the third call finds them. -/
theorem w4_k (i : S2x16x16384x256.Idx) :
    V4 m ρ c main_v51_1 i = (kK x g win kg wkv (i 0).val (i 1).val (i 2).val (i 3).val : EReal) := by
  refine (congrFun (W4_arr m ρ c 10) i).trans ?_
  rw [final1k (V3 m ρ) (fun t j => (cx x g win (t / 16384) (t % 16384) j : EReal)) (up2 wkv)
    (tab Ideal.cos) (tab Ideal.sin) (up1 kg) c (w3_v9 m ρ c x g win h0 h1 h2)
    (v50_at (W2 m ρ c) (up1 kg) fun i => (congrFun (W2_args m ρ c main_arg5 (by decide)) i).trans (h5 i))
    (v21_at (W2 m ρ c) (up2 wkv) fun i => (congrFun (W2_args m ρ c main_arg6 (by decide)) i).trans (h6 i))
    (v42_at (W2 m ρ c)) (v44_at (W2 m ρ c))]
  have hl : (i 2).val < 16384 := (i 2).isLt
  refine k_eq x g win kg wkv _ _ _ _ _ _ (fun k => latent x g win kg _ _ k hl) (fun e => ?_)
  show (cx x g win (((i 0).val * 16384 + (i 2).val) / 16384) (((i 0).val * 16384 + (i 2).val) % 16384) (1024 + e) : EReal) * tab Ideal.cos _ e
    + (cx x g win (((i 0).val * 16384 + (i 2).val) / 16384) (((i 0).val * 16384 + (i 2).val) % 16384) (1024 + (e + 128 - 64) % 128) : EReal)
      * tab Ideal.sin _ e = _
  rw [tab_cos, tab_sin, show ((i 0).val * 16384 + (i 2).val) / 16384 = (i 0).val by omega,
    show ((i 0).val * 16384 + (i 2).val) % 16384 = (i 2).val by omega]

include h0 h1 h2 h5 h6 in
/-- The values, as the third call finds them. -/
theorem w4_v (i : S2x16x16384x256.Idx) :
    V4 m ρ c main_v51_2 i = (vK x g win kg wkv (i 0).val (i 1).val (i 2).val (i 3).val : EReal) := by
  refine (congrFun (W4_arr m ρ c 11) i).trans ?_
  rw [final1v (V3 m ρ) (fun t j => (cx x g win (t / 16384) (t % 16384) j : EReal)) (up2 wkv) (up1 kg) c (w3_v9 m ρ c x g win h0 h1 h2)
    (v50_at (W2 m ρ c) (up1 kg) fun i => (congrFun (W2_args m ρ c main_arg5 (by decide)) i).trans (h5 i))
    (v21_at (W2 m ρ c) (up2 wkv) fun i => (congrFun (W2_args m ρ c main_arg6 (by decide)) i).trans (h6 i))]
  have hl : (i 2).val < 16384 := (i 2).isLt
  exact v_eq x g win kg wkv _ _ _ _ _ (fun k => latent x g win kg _ _ k hl)

include h0 h1 h2 h3 h4 h5 h6 in
/-- The attention's result, as the fourth call's host stretch finds it. -/
theorem w5_v52 (i : S2x16384x2048.Idx) :
    W5 m ρ c (Proc.devRef .tc main_v52) i = (out x g win qg wu kg wkv (i 0).val (i 1).val ((i 2).val / 128) ((i 2).val % 128) : EReal) := by
  refine (congrFun (W5_arr m ρ c 3) i).trans ?_
  rw [final2 (V4 m ρ) (qK x g win qg wu) (kK x g win kg wkv) (vK x g win kg wkv) c (w4_q m ρ c x g win qg wu h0 h1 h2 h3 h4)
    (w4_k m ρ c x g win kg wkv h0 h1 h2 h5 h6) (w4_v m ρ c x g win kg wkv h0 h1 h2 h5 h6) (vK_one x g win kg wkv)]
  exact congrArg _ (attn_eq x g win qg wu kg wkv _ _ _ _ (Nat.mod_lt _ (by norm_num)))

/-- The block's result. -/
def res (b l j : ℕ) : EReal :=
  x b l j + ∑ k : Fin 2048, (out x g win qg wu kg wkv b l (k.val / 128) (k.val % 128) : EReal) * wo k.val j

include h0 h1 h2 h3 h4 h5 h6 h7 in
/-- The program's result, as the last stretch leaves it. -/
theorem w8_v56 (i : S2x16384x2048.Idx) :
    W8 m ρ c (Proc.devRef .tc main_v56) i = res x g win qg wu kg wkv wo (i 0).val (i 1).val (i 2).val := by
  refine (v56_at (W7 m ρ c) (fun t j => res x g win qg wu kg wkv wo (t / 16384) (t % 16384) j) (fun y => ?_) i).trans ?_
  · refine (congrFun (W7_arr m ρ c 3) y).trans ?_
    rw [final3 (V6 m ρ) (fun t k => (out x g win qg wu kg wkv (t / 16384) (t % 16384) (k / 128) (k % 128) : EReal)) wo
      (fun t => x (t / 16384) (t % 16384)) c
      (v53_at (W5 m ρ c) (fun b l k => (out x g win qg wu kg wkv b l (k / 128) (k % 128) : EReal))
        (w5_v52 m ρ c x g win qg wu kg wkv h0 h1 h2 h3 h4 h5 h6))
      (v54_at (W5 m ρ c) wo fun i => (congrFun (W5_args m ρ c main_arg7 (by decide)) i).trans (h7 i))
      (fun y => ?_)]
    · rfl
    · refine (congrFun (W6_of m ρ c main_v0 (by decide)) y).trans ?_
      refine (congrFun (W5_of m ρ c main_v0 (by decide)) y).trans ?_
      refine (congrFun (W4_of m ρ c main_v0 (by decide)) y).trans ?_
      refine (congrFun (W3_of m ρ c main_v0 (by decide)) y).trans ?_
      refine (congrFun (W2_of m ρ c main_v0 (by decide)) y).trans ?_
      exact in_rows m ρ c x h0 y
  · have hl : (i 1).val < 16384 := (i 1).isLt
    show res x g win qg wu kg wkv wo (((i 0).val * 16384 + (i 1).val) / 16384) (((i 0).val * 16384 + (i 1).val) % 16384) _ = _
    rw [show ((i 0).val * 16384 + (i 1).val) / 16384 = (i 0).val by omega,
      show ((i 0).val * 16384 + (i 1).val) % 16384 = (i 1).val by omega]
end

end Cert.Block

end
-- ==== Proof.Ref1.lean ====
/- The reference's projections, normalizations and position tables, from real arguments. -/
module

public import proofs.«01_k».proof.Proof.Gen.ReferenceIdeal.Read
public import proofs.«01_k».proof.Proof.Chain
public import Idealize.ShloMosaic.Lib.Pointwise

@[expose] public section

set_option maxRecDepth 16384

noncomputable section

open Idealize.ShloMosaic Idealize.ShloMosaic.TcCoe
open scoped BigOperators

namespace Cert.Block.Ref

open Cert.ReferenceIdeal Cert.ReferenceIdeal.Gen Cert.ReferenceIdeal.Read
open Cert.RealLemmas Cert.KernelIdeal.Reg Cert.Block

variable (x0 : Vec Ideal S2x16384x2048 .f32) (x1 : Vec Ideal S2048 .f32) (x2 : Vec Ideal S2048x1088 .f32) (x3 : Vec Ideal S512 .f32)
  (x4 : Vec Ideal S512x3072 .f32) (x5 : Vec Ideal S512 .f32) (x6 : Vec Ideal S512x4096 .f32)
variable (x : ℕ → ℕ → ℕ → EReal) (g : ℕ → ℝ) (win : ℕ → ℕ → ℝ) (qg : ℕ → ℝ) (wu : ℕ → ℕ → ℝ) (kg : ℕ → ℝ) (wkv : ℕ → ℕ → ℝ)
  (h0 : ∀ i : S2x16384x2048.Idx, x0 i = x (i 0).val (i 1).val (i 2).val)
  (h1 : ∀ i : S2048.Idx, x1 i = (g (i 0).val : EReal))
  (h2 : ∀ i : S2048x1088.Idx, x2 i = (win (i 0).val (i 1).val : EReal))
  (h3 : ∀ i : S512.Idx, x3 i = (qg (i 0).val : EReal))
  (h4 : ∀ i : S512x3072.Idx, x4 i = (wu (i 0).val (i 1).val : EReal))
  (h5 : ∀ i : S512.Idx, x5 i = (kg (i 0).val : EReal))
  (h6 : ∀ i : S512x4096.Idx, x6 i = (wkv (i 0).val (i 1).val : EReal))

include h0 h1 in
/-- The normalized input. -/
theorem r12 (i : S2x16384x2048.Idx) :
    val_main_v12 (F := Ideal) x0 x1 i = (rmsR 2048 D2048 (x (i 0).val (i 1).val) g (i 2).val : EReal) := by
  refine Eq.trans ?_ (rms2048 _ _ _ (i 2).isLt)
  idx_vars i
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  simp only [h0, h1]
  rfl

include h0 h1 h2 in
/-- The compressed rows. -/
theorem r13 (i : S2x16384x1088.Idx) :
    val_main_v13 (F := Ideal) x0 x1 x2 i = (cx x g win (i 0).val (i 1).val (i 2).val : EReal) := by
  have hl : (i 2).val < 1088 := (i 2).isLt
  rw [cx, if_pos hl]
  refine Eq.trans ?_ (dot_coe _ _)
  rw [val_main_v13_apply]
  refine Finset.sum_congr rfl fun k _ => ?_
  exact congrArg₂ (· * ·) (r12 x0 x1 x g h0 h1 _) (h2 _)

include h0 h1 h2 h3 in
/-- The normalized query latent. -/
theorem r29 (i : S2x16384x512.Idx) :
    val_main_v29 (F := Ideal) x0 x1 x2 x3 i = (cq x g win qg (i 0).val (i 1).val (i 2).val : EReal) := by
  refine Eq.trans ?_ (rms512 _ _ _)
  have e : ∀ i : S2x16384x512.Idx, val_main_v14 (F := Ideal) x0 x1 x2 i = (cx x g win (i 0).val (i 1).val (i 2).val : EReal) := fun i => by
    rw [val_main_v14_apply]
    exact (r13 x0 x1 x2 x g win h0 h1 h2 _)
  idx_vars i
  pointwise [val_main_v29, val_main_v28, val_main_v27, val_main_v26, val_main_v25, val_main_v24, val_main_v23, val_main_v22, val_main_cst_4,
    val_main_v21, val_main_v20, val_main_cst_3, val_main_v19, val_main_v18, val_main_cst_2, val_main_v17]
  simp only [e, h3]
  rfl

include h0 h1 h2 h3 h4 in
/-- The queries by head. -/
theorem r31 (i : S2x16384x16x192.Idx) :
    val_main_v31 (F := Ideal) x0 x1 x2 x3 x4 i = (qv x g win qg wu (i 0).val (i 1).val (i 2).val (i 3).val : EReal) := by
  have e : ∀ i : S2x16384x3072.Idx, val_main_v30 (F := Ideal) x0 x1 x2 x3 x4 i
      = ((∑ k : Fin 512, cq x g win qg (i 0).val (i 1).val k.val * wu k.val (i 2).val : ℝ) : EReal) := fun i => by
    refine Eq.trans ?_ (dot_coe _ _)
    rw [val_main_v30_apply]
    refine Finset.sum_congr rfl fun k _ => ?_
    exact congrArg₂ (· * ·) (r29 x0 x1 x2 x3 x g win qg h0 h1 h2 h3 _) (h4 _)
  unfold val_main_v31
  generalize val_main_v30 (F := Ideal) x0 x1 x2 x3 x4 = y at e
  idx_vars i
  pointwise
  exact e _

include h0 h1 h2 h5 in
/-- The normalized key and value latent. -/
theorem r44 (i : S2x16384x512.Idx) :
    val_main_v44 (F := Ideal) x0 x1 x2 x5 i = (ck x g win kg (i 0).val (i 1).val (i 2).val : EReal) := by
  refine Eq.trans ?_ (rms512 _ _ _)
  have e : ∀ i : S2x16384x512.Idx, val_main_v15 (F := Ideal) x0 x1 x2 i = (cx x g win (i 0).val (i 1).val (512 + (i 2).val) : EReal) := fun i => by
    rw [val_main_v15_apply]
    exact (r13 x0 x1 x2 x g win h0 h1 h2 _)
  idx_vars i
  pointwise [val_main_v44, val_main_v43, val_main_v42, val_main_v41, val_main_v40, val_main_v39, val_main_v38, val_main_v37, val_main_cst_7,
    val_main_v36, val_main_v35, val_main_cst_6, val_main_v34, val_main_v33, val_main_cst_5, val_main_v32]
  simp only [e, h5]
  rfl

include h0 h1 h2 h5 h6 in
/-- The keys and values by head. -/
theorem r46 (i : S2x16384x16x256.Idx) :
    val_main_v46 (F := Ideal) x0 x1 x2 x5 x6 i = (kv x g win kg wkv (i 0).val (i 1).val (i 2).val (i 3).val : EReal) := by
  have e : ∀ i : S2x16384x4096.Idx, val_main_v45 (F := Ideal) x0 x1 x2 x5 x6 i
      = ((∑ k : Fin 512, ck x g win kg (i 0).val (i 1).val k.val * wkv k.val (i 2).val : ℝ) : EReal) := fun i => by
    refine Eq.trans ?_ (dot_coe _ _)
    rw [val_main_v45_apply]
    refine Finset.sum_congr rfl fun k _ => ?_
    exact congrArg₂ (· * ·) (r44 x0 x1 x2 x5 x g win kg h0 h1 h2 h5 _) (h6 _)
  unfold val_main_v46
  generalize val_main_v45 (F := Ideal) x0 x1 x2 x5 x6 = y at e
  idx_vars i
  pointwise
  exact e _

/-- The angles. -/
theorem r64 (i : S16384x64.Idx) : val_main_v64 (F := Ideal) i = ang2 (i 0).val (i 1).val := by
  have e : ∀ i : S16384x32.Idx, val_main_v63 (F := Ideal) i = ang (i 0).val (i 1).val := fun i => by
    idx_vars i
    pointwise [val_main_v63, val_main_v62, val_main_v61, val_main_v60, val_main_v59, val_main_v58, val_main_v57, val_main_v56, val_main_cst_12,
      val_main_v55, val_main_v54, val_main_cst_11, val_main_v53, val_main_v52, val_main_cst_10, val_main_v51, val_main_v50, val_main_cst_9,
      val_main_v49, val_main_v48, val_main_cst_8, val_main_v47]
    rfl
  unfold val_main_v64
  generalize val_main_v63 (F := Ideal) = y at e
  idx_vars i
  pointwise
  unfold ang2
  exact Cert.KernelIdeal.Host.cases_read (fun h => e _) (fun h => e _)
/-- The cosines. -/
theorem r65 (i : S16384x64.Idx) : val_main_v65 (F := Ideal) i = (cosR (i 0).val (i 1).val : EReal) := by
  rw [val_main_v65_apply, r64]; exact cos_eq _ _
/-- The sines. -/
theorem r66 (i : S16384x64.Idx) : val_main_v66 (F := Ideal) i = (sinR (i 0).val (i 1).val : EReal) := by
  rw [val_main_v66_apply, r64]; exact sin_eq _ _

end Cert.Block.Ref

end
-- ==== Proof.Ref2.lean ====
/- The reference's turned entries and scores, from real arguments. -/
module

public import proofs.«01_k».proof.Proof.Ref1

@[expose] public section

set_option maxRecDepth 16384

noncomputable section

open Idealize.ShloMosaic Idealize.ShloMosaic.TcCoe
open scoped BigOperators

namespace Cert.Block.Ref

open Cert.ReferenceIdeal Cert.ReferenceIdeal.Gen Cert.ReferenceIdeal.Read
open Cert.RealLemmas Cert.KernelIdeal.Reg Cert.Block

/-- A rotated entry of reals, read from the two halves. -/
theorem rot_coe (f : ℕ → ℝ) (e : ℕ) : (rot f e : EReal) = if e < 32 then -(f (32 + e) : EReal) else (f (e - 32) : EReal) := by
  unfold rot; split
  · exact EReal.coe_neg _
  · rfl

variable (x0 : Vec Ideal S2x16384x2048 .f32) (x1 : Vec Ideal S2048 .f32) (x2 : Vec Ideal S2048x1088 .f32) (x3 : Vec Ideal S512 .f32)
  (x4 : Vec Ideal S512x3072 .f32) (x5 : Vec Ideal S512 .f32) (x6 : Vec Ideal S512x4096 .f32) (x7 : Vec Ideal S2048x2048 .f32)
variable (x : ℕ → ℕ → ℕ → EReal) (g : ℕ → ℝ) (win : ℕ → ℕ → ℝ) (qg : ℕ → ℝ) (wu : ℕ → ℕ → ℝ) (kg : ℕ → ℝ) (wkv : ℕ → ℕ → ℝ)
  (wo : ℕ → ℕ → EReal)
  (h0 : ∀ i : S2x16384x2048.Idx, x0 i = x (i 0).val (i 1).val (i 2).val)
  (h1 : ∀ i : S2048.Idx, x1 i = (g (i 0).val : EReal))
  (h2 : ∀ i : S2048x1088.Idx, x2 i = (win (i 0).val (i 1).val : EReal))
  (h3 : ∀ i : S512.Idx, x3 i = (qg (i 0).val : EReal))
  (h4 : ∀ i : S512x3072.Idx, x4 i = (wu (i 0).val (i 1).val : EReal))
  (h5 : ∀ i : S512.Idx, x5 i = (kg (i 0).val : EReal))
  (h6 : ∀ i : S512x4096.Idx, x6 i = (wkv (i 0).val (i 1).val : EReal))
  (h7 : ∀ i : S2048x2048.Idx, x7 i = wo (i 0).val (i 1).val)

include h0 h1 h2 h3 h4 in
/-- The turned queries. -/
theorem r81 (i : S2x16384x16x64.Idx) :
    val_main_v81 (F := Ideal) x0 x1 x2 x3 x4 i = (qr x g win qg wu (i 0).val (i 1).val (i 2).val (i 3).val : EReal) := by
  have e68 : ∀ i : S2x16384x16x64.Idx, val_main_v68 (F := Ideal) x0 x1 x2 x3 x4 i
      = (qv x g win qg wu (i 0).val (i 1).val (i 2).val (128 + (i 3).val) : EReal) := fun i => by
    rw [val_main_v68_apply]
    exact r31 x0 x1 x2 x3 x4 x g win qg wu h0 h1 h2 h3 h4 _
  have e74 : ∀ i : S2x16384x16x64.Idx, val_main_v74 (F := Ideal) x0 x1 x2 x3 x4 i
      = (rot (fun e => qv x g win qg wu (i 0).val (i 1).val (i 2).val (128 + e)) (i 3).val : EReal) := fun i => by
    rw [rot_coe]
    unfold val_main_v74 val_main_v72 val_main_v71 val_main_v73
    generalize val_main_v68 (F := Ideal) x0 x1 x2 x3 x4 = y at e68
    idx_vars i
    pointwise
    exact Cert.KernelIdeal.Host.cases_read (fun h => congrArg (fun a : EReal => -a) (e68 _)) (fun h => e68 _)
  have e76 : ∀ i : S2x16384x16x64.Idx, val_main_v76 (F := Ideal) i = (cosR (i 1).val (i 3).val : EReal) := fun i => by
    rw [val_main_v76_apply, val_main_v75_apply, val_main_v69_apply, r65]
  have e79 : ∀ i : S2x16384x16x64.Idx, val_main_v79 (F := Ideal) i = (sinR (i 1).val (i 3).val : EReal) := fun i => by
    rw [val_main_v79_apply, val_main_v78_apply, val_main_v70_apply, r66]
  rw [val_main_v81_apply, val_main_v77_apply, val_main_v80_apply, e68, e74, e76, e79, qr, EReal.coe_add, EReal.coe_mul, EReal.coe_mul]
  rfl

include h0 h1 h2 in
/-- The turned keys. -/
theorem r94 (i : S2x16384x64.Idx) :
    val_main_v94 (F := Ideal) x0 x1 x2 i = (kr x g win (i 0).val (i 1).val (i 2).val : EReal) := by
  have e16 : ∀ i : S2x16384x64.Idx, val_main_v16 (F := Ideal) x0 x1 x2 i
      = (cx x g win (i 0).val (i 1).val (1024 + (i 2).val) : EReal) := fun i => by
    rw [val_main_v16_apply]
    exact r13 x0 x1 x2 x g win h0 h1 h2 _
  have e87 : ∀ i : S2x16384x64.Idx, val_main_v87 (F := Ideal) x0 x1 x2 i
      = (rot (fun e => cx x g win (i 0).val (i 1).val (1024 + e)) (i 2).val : EReal) := fun i => by
    rw [rot_coe]
    unfold val_main_v87 val_main_v85 val_main_v84 val_main_v86
    generalize val_main_v16 (F := Ideal) x0 x1 x2 = y at e16
    idx_vars i
    pointwise
    exact Cert.KernelIdeal.Host.cases_read (fun h => congrArg (fun a : EReal => -a) (e16 _)) (fun h => e16 _)
  have e89 : ∀ i : S2x16384x64.Idx, val_main_v89 (F := Ideal) i = (cosR (i 1).val (i 2).val : EReal) := fun i => by
    rw [val_main_v89_apply, val_main_v88_apply, r65]
  have e92 : ∀ i : S2x16384x64.Idx, val_main_v92 (F := Ideal) i = (sinR (i 1).val (i 2).val : EReal) := fun i => by
    rw [val_main_v92_apply, val_main_v91_apply, r66]
  rw [val_main_v94_apply, val_main_v90_apply, val_main_v93_apply, e16, e87, e89, e92, kr, EReal.coe_add, EReal.coe_mul, EReal.coe_mul]
  rfl

include h0 h1 h2 h3 h4 h5 h6 in
/-- The scaled scores. -/
theorem r100 (i : S2x16x16384x16384.Idx) :
    val_main_v100 (F := Ideal) x0 x1 x2 x3 x4 x5 x6 i
      = ((score x g win qg wu kg wkv (i 0).val (i 1).val (i 2).val (i 3).val * scl : ℝ) : EReal) := by
  have e95 : val_main_v95 (F := Ideal) x0 x1 x2 x3 x4 x5 x6 i
      = ((∑ d : Fin 128, qv x g win qg wu (i 0).val (i 2).val (i 1).val d.val * kv x g win kg wkv (i 0).val (i 3).val (i 1).val d.val : ℝ) : EReal) := by
    rw [val_main_v95_apply]
    refine Eq.trans (Finset.sum_congr rfl fun k _ => ?_) (dot_coe _ _)
    rw [val_main_v67_apply, val_main_v82_apply]
    exact congrArg₂ (· * ·) (r31 x0 x1 x2 x3 x4 x g win qg wu h0 h1 h2 h3 h4 _) (r46 x0 x1 x2 x5 x6 x g win kg wkv h0 h1 h2 h5 h6 _)
  have e97 : val_main_v97 (F := Ideal) x0 x1 x2 x3 x4 i
      = ((∑ e : Fin 64, qr x g win qg wu (i 0).val (i 2).val (i 1).val e.val * kr x g win (i 0).val (i 3).val e.val : ℝ) : EReal) := by
    rw [val_main_v97_apply, val_main_v96_apply]
    refine Eq.trans (Finset.sum_congr rfl fun k _ => ?_) (dot_coe _ _)
    rw [mul_comm]
    exact congrArg₂ (· * ·) (r81 x0 x1 x2 x3 x4 x g win qg wu h0 h1 h2 h3 h4 _) (r94 x0 x1 x2 x g win h0 h1 h2 _)
  rw [val_main_v100_apply, val_main_v98_apply, e95, e97, val_main_v99_apply, val_main_cst_13_apply, score, EReal.coe_mul, EReal.coe_add, ← scale_eq]
  rfl

end Cert.Block.Ref

end
-- ==== Proof.Ref3.lean ====
/- The reference's softmax and result, from real arguments. -/
module

public import proofs.«01_k».proof.Proof.Ref2

@[expose] public section

set_option maxRecDepth 16384

noncomputable section

open Idealize.ShloMosaic Idealize.ShloMosaic.TcCoe
open scoped BigOperators

namespace Cert.Block.Ref

open Cert.ReferenceIdeal Cert.ReferenceIdeal.Gen Cert.ReferenceIdeal.Read
open Cert.RealLemmas Cert.KernelIdeal.Reg Cert.Block

/-- A softmax with any real shift, against the unshifted one. -/
theorem softmax_shift {n : ℕ} (s v : Fin n → ℝ) (M : ℝ) :
    (∑ k, v k * (Real.exp (s k - M) / ∑ j, Real.exp (s j - M))) = (∑ k, Real.exp (s k) * v k) / ∑ j, Real.exp (s j) := by
  have h : ∀ k, Real.exp (s k - M) = Real.exp (s k) * Real.exp (-M) := fun k => by rw [← Real.exp_add, sub_eq_add_neg]
  have hM : Real.exp (-M) ≠ 0 := (Real.exp_pos _).ne'
  simp only [h, ← Finset.sum_mul]
  rw [Finset.sum_div]
  refine Finset.sum_congr rfl fun k _ => ?_
  rw [mul_div_mul_right _ _ hM]; ring

/-- A reduction by the maximum from minus infinity, the entries real and at least one of them reducing here, is real. -/
theorem isR_reduce {s t u : Shape} {axes : List (Fin s.rank)} (v : s.Idx → Ideal .f32) (init : u.Idx → Ideal .f32) (h : s.ReducesTo axes t)
    (hu : 0 < u.numel) (j : t.Idx) (i0 : s.Idx) (hi : h.drop i0 = j) (hinit : init (Shape.Idx.first hu) = (⊥ : EReal))
    (hv : ∀ i, IsR (v i)) : IsR (Host.reduce (FloatOps.maximumf (F := Ideal) (φ := .f32)) v init h hu j) := by
  rw [Host.reduce_eq_fold, hinit]
  show IsR (Finset.fold Max.max (⊥ : EReal) v _)
  apply IsR.of_ne
  · refine ne_of_lt ?_
    rw [Finset.fold_max_lt]
    exact ⟨bot_lt_top, fun i _ => by obtain ⟨r, hr⟩ := hv i; rw [hr]; exact EReal.coe_lt_top r⟩
  · refine ne_of_gt ?_
    rw [Finset.lt_fold_max]
    exact Or.inr ⟨i0, Finset.mem_filter.2 ⟨Finset.mem_univ _, hi⟩, by obtain ⟨r, hr⟩ := hv i0; rw [hr]; exact EReal.bot_lt_coe r⟩

variable (x0 : Vec Ideal S2x16384x2048 .f32) (x1 : Vec Ideal S2048 .f32) (x2 : Vec Ideal S2048x1088 .f32) (x3 : Vec Ideal S512 .f32)
  (x4 : Vec Ideal S512x3072 .f32) (x5 : Vec Ideal S512 .f32) (x6 : Vec Ideal S512x4096 .f32) (x7 : Vec Ideal S2048x2048 .f32)
variable (x : ℕ → ℕ → ℕ → EReal) (g : ℕ → ℝ) (win : ℕ → ℕ → ℝ) (qg : ℕ → ℝ) (wu : ℕ → ℕ → ℝ) (kg : ℕ → ℝ) (wkv : ℕ → ℕ → ℝ)
  (wo : ℕ → ℕ → EReal)
  (h0 : ∀ i : S2x16384x2048.Idx, x0 i = x (i 0).val (i 1).val (i 2).val)
  (h1 : ∀ i : S2048.Idx, x1 i = (g (i 0).val : EReal))
  (h2 : ∀ i : S2048x1088.Idx, x2 i = (win (i 0).val (i 1).val : EReal))
  (h3 : ∀ i : S512.Idx, x3 i = (qg (i 0).val : EReal))
  (h4 : ∀ i : S512x3072.Idx, x4 i = (wu (i 0).val (i 1).val : EReal))
  (h5 : ∀ i : S512.Idx, x5 i = (kg (i 0).val : EReal))
  (h6 : ∀ i : S512x4096.Idx, x6 i = (wkv (i 0).val (i 1).val : EReal))
  (h7 : ∀ i : S2048x2048.Idx, x7 i = wo (i 0).val (i 1).val)

include h0 h1 h2 h3 h4 h5 h6 in
/-- The shift of each row is a real number. -/
theorem r103 (i : S2x16x16384.Idx) : IsR (val_main_v103 (F := Ideal) x0 x1 x2 x3 x4 x5 x6 i) := by
  rw [val_main_v103_apply, val_main_v102_apply, val_main_cst_15_apply]
  show IsR (max (Ideal.ofBits .f32 0xFF800000#32) _)
  rw [ofBits_neg_inf, max_bot_left]
  unfold val_main_v101
  refine isR_reduce _ _ _ _ _ (fun a => match a with
    | ⟨0, _⟩ => ⟨(i 0).val, (i 0).isLt⟩ | ⟨1, _⟩ => ⟨(i 1).val, (i 1).isLt⟩ | ⟨2, _⟩ => ⟨(i 2).val, (i 2).isLt⟩
    | ⟨3, _⟩ => ⟨0, by norm_num⟩) ?_ ofBits_neg_inf fun k => ⟨_, r100 x0 x1 x2 x3 x4 x5 x6 x g win qg wu kg wkv h0 h1 h2 h3 h4 h5 h6 k⟩
  funext a
  match a with
  | ⟨0, _⟩ => exact Fin.ext (Shape.ReducesTo.drop_apply_val_of_eq reducesTo_S2x16x16384x16384_S2x16x16384_d3 _ (⟨0, by decide⟩ : Fin S2x16x16384.rank) 0)
  | ⟨1, _⟩ => exact Fin.ext (Shape.ReducesTo.drop_apply_val_of_eq reducesTo_S2x16x16384x16384_S2x16x16384_d3 _ (⟨1, by decide⟩ : Fin S2x16x16384.rank) 1)
  | ⟨2, _⟩ => exact Fin.ext (Shape.ReducesTo.drop_apply_val_of_eq reducesTo_S2x16x16384x16384_S2x16x16384_d3 _ (⟨2, by decide⟩ : Fin S2x16x16384.rank) 2)

include h0 h1 h2 h3 h4 h5 h6 in
/-- The softmax's product with the values. -/
theorem r112 (i : S2x16x128x16384.Idx) :
    val_main_v112 (F := Ideal) x0 x1 x2 x3 x4 x5 x6 i
      = (out x g win qg wu kg wkv (i 0).val (i 3).val (i 1).val (i 2).val : EReal) := by
  have hι : ∀ k : Fin 16384, idx_main_v104 (idx_main_v105 (ridx_main_v112 i k)) = idx_main_v104 (idx_main_v105 (ridx_main_v112 i ⟨0, by norm_num⟩)) :=
    fun k => by
      funext a; match a with
      | ⟨0, _⟩ => rfl
      | ⟨1, _⟩ => rfl
      | ⟨2, _⟩ => rfl
  obtain ⟨M, hM⟩ := r103 x0 x1 x2 x3 x4 x5 x6 x g win qg wu kg wkv h0 h1 h2 h3 h4 h5 h6
    (idx_main_v104 (idx_main_v105 (ridx_main_v112 i ⟨0, by norm_num⟩)))
  have e107 : ∀ k : Fin 16384, val_main_v107 (F := Ideal) x0 x1 x2 x3 x4 x5 x6 (ridx_main_v112 i k)
      = (Real.exp (score x g win qg wu kg wkv (i 0).val (i 1).val (i 3).val k.val * scl - M) : EReal) := fun k => by
    rw [val_main_v107_apply, val_main_v106_apply, r100 x0 x1 x2 x3 x4 x5 x6 x g win qg wu kg wkv h0 h1 h2 h3 h4 h5 h6,
      val_main_v105_apply, val_main_v104_apply, hι, hM]
    exact (congrArg Ideal.exp (EReal.coe_sub _ _).symm)
  have e110 : ∀ k : Fin 16384, val_main_v110 (F := Ideal) x0 x1 x2 x3 x4 x5 x6 (ridx_main_v112 i k)
      = ((∑ j : Fin 16384, Real.exp (score x g win qg wu kg wkv (i 0).val (i 1).val (i 3).val j.val * scl - M) : ℝ) : EReal) := fun k => by
    rw [val_main_v110_apply, val_main_v109_apply, val_main_v108_apply, coe_sum]
    refine Eq.trans ?_ (zero_add _)
    refine congrArg₂ (· + ·) ?_ (Finset.sum_congr rfl fun j _ => e107 j)
    rw [val_main_cst_16_apply]; simp [FloatOps.ofBits, Ideal.ofBits, Ideal.ieee]
  have hne : (∑ j : Fin 16384, Real.exp (score x g win qg wu kg wkv (i 0).val (i 1).val (i 3).val j.val * scl - M)) ≠ 0 :=
    (Finset.sum_pos (fun j _ => Real.exp_pos _) ⟨⟨0, by norm_num⟩, Finset.mem_univ _⟩).ne'
  have e111 : ∀ k : Fin 16384, val_main_v111 (F := Ideal) x0 x1 x2 x3 x4 x5 x6 (ridx_main_v112 i k)
      = ((Real.exp (score x g win qg wu kg wkv (i 0).val (i 1).val (i 3).val k.val * scl - M)
        / ∑ j : Fin 16384, Real.exp (score x g win qg wu kg wkv (i 0).val (i 1).val (i 3).val j.val * scl - M) : ℝ) : EReal) := fun k => by
    rw [val_main_v111_apply, e107, e110]
    exact div_coe_coe _ hne
  rw [val_main_v112_apply]
  refine Eq.trans (Finset.sum_congr rfl fun k _ => congrArg₂ (· * ·) (?_ : _ = (kv x g win kg wkv (i 0).val k.val (i 1).val (128 + (i 2).val) : EReal)) (e111 k)) ?_
  · rw [val_main_v83_apply]
    exact r46 x0 x1 x2 x5 x6 x g win kg wkv h0 h1 h2 h5 h6 _
  · rw [dot_coe, softmax_shift, out,
      Fin.sum_univ_eq_sum_range (fun k => Real.exp (score x g win qg wu kg wkv (i 0).val (i 1).val (i 3).val k * scl)
        * kv x g win kg wkv (i 0).val k (i 1).val (128 + (i 2).val)) 16384,
      Fin.sum_univ_eq_sum_range (fun k => Real.exp (score x g win qg wu kg wkv (i 0).val (i 1).val (i 3).val k * scl)) 16384]

include h0 h1 h2 h3 h4 h5 h6 h7 in
/-- The reference's result. -/
theorem r116 (i : S2x16384x2048.Idx) :
    val_main_v116 (F := Ideal) x0 x1 x2 x3 x4 x5 x6 x7 i = res x g win qg wu kg wkv wo (i 0).val (i 1).val (i 2).val := by
  have e114 : ∀ i : S2x16384x2048.Idx, val_main_v114 (F := Ideal) x0 x1 x2 x3 x4 x5 x6 i
      = (out x g win qg wu kg wkv (i 0).val (i 1).val ((i 2).val / 128) ((i 2).val % 128) : EReal) := fun i => by
    have e := r112 x0 x1 x2 x3 x4 x5 x6 x g win qg wu kg wkv h0 h1 h2 h3 h4 h5 h6
    unfold val_main_v114 val_main_v113
    generalize val_main_v112 (F := Ideal) x0 x1 x2 x3 x4 x5 x6 = y at e
    idx_vars i
    pointwise
    exact e _
  rw [val_main_v116_apply, val_main_v115_apply, res]
  refine congrArg₂ (· + ·) (h0 i) (Finset.sum_congr rfl fun k _ => ?_)
  exact congrArg₂ (· * ·) (e114 _) (h7 _)

end Cert.Block.Ref

end
-- ==== Proof.Places.lean ====
/- Arrays read by the numbers of their positions. -/
module

public import proofs.«01_k».proof.Proof.RealLemmas
public import Idealize.ShloMosaic.Lib.Pointwise

@[expose] public section

noncomputable section

open Idealize.ShloMosaic

namespace Cert.RealLemmas

/-- A vector of extended reals, by its position. -/
def at1E {n : ℕ} [NeZero n] (a : (⟨1, ![n]⟩ : Shape).Idx → EReal) (k : ℕ) : EReal := a (ix1 (Fin.ofNat n k))
theorem at1E_eq {n : ℕ} [NeZero n] (a : (⟨1, ![n]⟩ : Shape).Idx → EReal) (i : (⟨1, ![n]⟩ : Shape).Idx) :
    a i = at1E a (i 0).val := by
  have e : i = ix1 (Fin.ofNat n (i 0).val) := by
    funext d; match d with
    | 0 => exact Fin.ext (Nat.mod_eq_of_lt (i 0).isLt).symm
  exact congrArg a e
/-- A vector of reals, by its position. -/
def at1 {n : ℕ} [NeZero n] (a : (⟨1, ![n]⟩ : Shape).Idx → EReal) (k : ℕ) : ℝ := (a (ix1 (Fin.ofNat n k))).toReal
theorem at1_eq {n : ℕ} [NeZero n] (a : (⟨1, ![n]⟩ : Shape).Idx → EReal) (h : ∀ i, IsR (a i)) (i : (⟨1, ![n]⟩ : Shape).Idx) :
    a i = (at1 a (i 0).val : EReal) := by
  unfold at1; rw [← (h _).eq]; exact at1E_eq a i
/-- A matrix of extended reals, by its positions. -/
def atE {n p : ℕ} [NeZero n] [NeZero p] (a : (⟨2, ![n, p]⟩ : Shape).Idx → EReal) (k j : ℕ) : EReal := a (ix2 (Fin.ofNat n k) (Fin.ofNat p j))
theorem atE_eq {n p : ℕ} [NeZero n] [NeZero p] (a : (⟨2, ![n, p]⟩ : Shape).Idx → EReal) (i : (⟨2, ![n, p]⟩ : Shape).Idx) :
    a i = atE a (i 0).val (i 1).val := by
  have e : i = ix2 (Fin.ofNat n (i 0).val) (Fin.ofNat p (i 1).val) := by
    funext d; match d with
    | 0 => exact Fin.ext (Nat.mod_eq_of_lt (i 0).isLt).symm
    | 1 => exact Fin.ext (Nat.mod_eq_of_lt (i 1).isLt).symm
  exact congrArg a e
/-- A matrix of reals, by its positions. -/
def at2 {n p : ℕ} [NeZero n] [NeZero p] (a : (⟨2, ![n, p]⟩ : Shape).Idx → EReal) (k j : ℕ) : ℝ := (atE a k j).toReal
theorem at2_eq {n p : ℕ} [NeZero n] [NeZero p] (a : (⟨2, ![n, p]⟩ : Shape).Idx → EReal) (h : ∀ i, IsR (a i)) (i : (⟨2, ![n, p]⟩ : Shape).Idx) :
    a i = (at2 a (i 0).val (i 1).val : EReal) := by
  unfold at2 atE; rw [← (h _).eq]; exact atE_eq a i
/-- A stack of matrices of extended reals, by its positions. -/
def at3 {n p q : ℕ} [NeZero n] [NeZero p] [NeZero q] (a : (⟨3, ![n, p, q]⟩ : Shape).Idx → EReal) (b k j : ℕ) : EReal :=
  a (ix3 (Fin.ofNat n b) (Fin.ofNat p k) (Fin.ofNat q j))
theorem at3_eq {n p q : ℕ} [NeZero n] [NeZero p] [NeZero q] (a : (⟨3, ![n, p, q]⟩ : Shape).Idx → EReal)
    (i : (⟨3, ![n, p, q]⟩ : Shape).Idx) : a i = at3 a (i 0).val (i 1).val (i 2).val := by
  have e : i = ix3 (Fin.ofNat n (i 0).val) (Fin.ofNat p (i 1).val) (Fin.ofNat q (i 2).val) := by
    funext d; match d with
    | 0 => exact Fin.ext (Nat.mod_eq_of_lt (i 0).isLt).symm
    | 1 => exact Fin.ext (Nat.mod_eq_of_lt (i 1).isLt).symm
    | 2 => exact Fin.ext (Nat.mod_eq_of_lt (i 2).isLt).symm
  exact congrArg a e

end Cert.RealLemmas

end
-- ==== Proof.Whole.lean ====
/- The claims: the runs of the three programs, and that the kernel's result is the reference's. -/
module

public import proofs.«01_k».proof.Defs
public import proofs.«01_k».proof.Proof.Gen.Kernel.Frame
public import proofs.«01_k».proof.Proof.Pre
public import proofs.«01_k».proof.Proof.Ref3
public import proofs.«01_k».proof.Proof.Places

@[expose] public section

set_option maxRecDepth 16384

noncomputable section

open Idealize.ShloMosaic Idealize.ShloMosaic.TcCoe Idealize.SL.Sem
open scoped BigOperators

namespace Cert.Block.Whole

open Cert.RealLemmas Cert.Block

/-- The kernel runs and leaves its arguments and semaphores as launched. -/
theorem runs_Kernel : Cert.quiescent_Kernel := fun m ρ _ => Cert.Kernel.Gen.frame m ρ
/-- So does the kernel read in exact arithmetic. -/
theorem runs_KernelIdeal : Cert.quiescent_KernelIdeal := fun m ρ _ => Cert.KernelIdeal.Gen.frame m ρ
/-- And with the precondition. -/
theorem runs_KernelIdeal_pre : Cert.quiescent_KernelIdeal_pre_finite_args := fun m ρ _ => Cert.KernelIdeal.Gen.frame m ρ
/-- The reference runs and leaves its arguments as launched; it has no semaphore. -/
theorem runs_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
/-- And with the precondition. -/
theorem runs_ReferenceIdeal_pre : Cert.quiescent_ReferenceIdeal_pre_finite_args := fun m ρ _ => runs_ReferenceIdeal m ρ trivial

/-- The two results at every place, from arguments that pass the test. -/
theorem same (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (hpre : Cert.Pre_KernelIdeal_finite_args m) :
    (Cert.KernelIdeal.Gen.W8 m ρ c (Proc.devRef .tc Cert.KernelIdeal.main_v56) : Cert.KernelIdeal.S2x16384x2048.Idx → EReal)
      = Cert.ReferenceIdeal.Read.val_main_v116 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨r1, r2, r3, r4, r5, r6⟩ := Cert.Pre_finite_args.args_real _ _ _ _ _ _ _ _ (hpre c)
  have h0 := at3_eq (n := 2) (p := 16384) (q := 2048) (m ((c.tc : Thread Cert.KernelIdeal.nD Cert.KernelIdeal.τ).loc Cert.KernelIdeal.main_arg0))
  have h1 := at1_eq _ r1
  have h2 := at2_eq _ r2
  have h3 := at1_eq _ r3
  have h4 := at2_eq _ r4
  have h5 := at1_eq _ r5
  have h6 := at2_eq _ r6
  have h7 := atE_eq (n := 2048) (p := 2048) (m ((c.tc : Thread Cert.KernelIdeal.nD Cert.KernelIdeal.τ).loc Cert.KernelIdeal.main_arg7))
  funext i
  exact (w8_v56 m ρ c _ _ _ _ _ _ _ _ h0 h1 h2 h3 h4 h5 h6 h7 i).trans
    (Ref.r116 _ _ _ _ _ _ _ _ _ _ _ _ _ _ _ _ h0 h1 h2 h3 h4 h5 h6 h7 i).symm

/-- The kernel's result is the reference's, on arguments that pass the test. -/
theorem equal : Cert.algebraic_KernelIdeal_ReferenceIdeal_pre_finite_args := by
  intro m g m' g' hpre hagree
  refine ⟨fun c => Cert.KernelIdeal.Gen.W8 m g c (Proc.devRef .tc Cert.KernelIdeal.main_v56), Cert.KernelIdeal.Reg.run m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v116_eq (F := Ideal) (StableHlo.launchContents m' c)).trans ?_
  refine Eq.trans ?_ (same m g c hpre).symm
  obtain ⟨a0, a1, a2, a3, a4, a5, a6, a7⟩ := hagree c
  rw [← a0, ← a1, ← a2, ← a3, ← a4, ← a5, ← a6, ← a7]

end Cert.Block.Whole

end
-- ==== Proof.HyenaIn.lean ====
/- The input projection of the convolution block: the call's result is the reference's. -/
module

public import proofs.«01_k».proof.Defs
public import proofs.«01_k».proof.Proof.Gen.HyenaInIdeal.Value
public import proofs.«01_k».proof.Proof.Gen.HyenaInRefIdeal.Read
public import proofs.«01_k».proof.Proof.Places
public import proofs.«01_k».proof.Proof.Reg03
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Block.HyenaIn

open Cert.RealLemmas Cert.KernelIdeal.Reg

/-- A normalized row, over rows of 2048. -/
abbrev norm (x g : ℕ → EReal) (k : ℕ) : EReal := rms 2048 (Ideal.ofBits .f32 0x45000000#32) x g k
/-- What both programs compute: the normalized rows times the input weights. -/
def proj (x : ℕ → ℕ → ℕ → EReal) (g : ℕ → EReal) (w : ℕ → ℕ → EReal) (b l j : ℕ) : EReal :=
  ∑ k : Fin 2048, norm (x b l) g k.val * w k.val j

section
open Cert.HyenaInIdeal Cert.HyenaInIdeal.Gen
variable (m : (ℓ : Loc nD τ sig) → Buf (Elt Ideal) ℓ) (c : Dev nD)
variable (x : ℕ → ℕ → ℕ → EReal) (g : ℕ → EReal) (w : ℕ → ℕ → EReal)
  (h0 : ∀ i : S2x16384x2048.Idx, m ((c : Thread nD τ).loc main_arg0) i = x (i 0).val (i 1).val (i 2).val)
  (h1 : ∀ i : S2048.Idx, m ((c : Thread nD τ).loc main_arg1) i = g (i 0).val)
  (h2 : ∀ i : S2048x6144.Idx, m ((c : Thread nD τ).loc main_arg2) i = w (i 0).val (i 1).val)

/-- The windows' index maps. -/
theorem idx : ∀ t : Fin cfg0.N,
    win0_0.index t = ![t.val / 6, 0] ∧ win0_1.index t = ![0, 0] ∧ win0_2.index t = ![0, t.val % 6]
    ∧ win0_3.index t = ![t.val / 6, t.val % 6] :=
  (by decide +kernel : ∀ t : Fin grid0.N, _)

include h0 in
/-- The stream's rows, as the call reads them. -/
theorem rows_x (i : S32768x2048.Idx) : V m c main_v0 i = x ((i 0).val / 16384) ((i 0).val % 16384) (i 1).val := by
  unfold V
  after_results
  idx_vars i
  pointwise
  exact h0 _

include h1 in
/-- The gain, as the call reads it. -/
theorem gain (i : S1x2048.Idx) : V m c main_v2 i = g (i 1).val := by
  unfold V
  after_results
  idx_vars i
  pointwise
  exact h1 _

include h2 in
/-- The weights, as the call reads them. -/
theorem weights (i : S2048x6144.Idx) : V m c main_v1 i = w (i 0).val (i 1).val := by
  unfold V
  after_results
  idx_vars i
  pointwise
  exact h2 _

/-- Row `r` of the stream's rows. -/
abbrev row (x : ℕ → ℕ → ℕ → EReal) (r : ℕ) : ℕ → EReal := x (r / 16384) (r % 16384)

include h0 in
theorem blk0 (t : Fin cfg0.N) (r : Fin 512) (k : Fin 2048) : iblk m c 0 t (ix2 r k) = row x (t.val / 6 * 512 + r.val) k.val := by
  blk_simp [iblk]
  refine (rows_x m c x h0 _).trans ?_
  blk_simp [idx t]
include h1 in
theorem blk1 (t : Fin cfg0.N) (k : Fin 2048) : iblk m c 1 t (ix2 0 k) = g k.val := by
  blk_simp [iblk]
  refine (gain m c g h1 _).trans ?_
  blk_simp [idx t]
include h2 in
theorem blk2 (t : Fin cfg0.N) (k : Fin 2048) (j : Fin 1024) : iblk m c 2 t (ix2 k j) = w k.val (t.val % 6 * 1024 + j.val) := by
  blk_simp [iblk]
  refine (weights m c w h2 _).trans ?_
  blk_simp [idx t]

include h0 h1 in
/-- At a row block's first column block the scratch is written. -/
theorem scratch_first (t : Fin cfg0.N) (hz : t.val % 6 = 0) (r : Fin 512) (k : Fin 2048) :
    (outsAt0 m c t.val t.isLt).2 (ix2 r k) = norm (row x (t.val / 6 * 512 + r.val)) g k.val := by
  rw [outsAt0_A m c t hz]
  unfold sout0_A_0
  frame_out
  pointwise [k0_pay1]
  simp only [blk0 m c x h0, blk1 m c g h1]
  rfl

include h0 h1 in
/-- The scratch holds the current block's normalized rows after every point: written at a row block's first column block,
    kept at the others. -/
theorem scratch (n : ℕ) (hn : n < cfg0.N) (r : Fin 512) (k : Fin 2048) :
    (outsAt0 m c n hn).2 (ix2 r k) = norm (row x (n / 6 * 512 + r.val)) g k.val := by
  induction n with
  | zero => exact scratch_first m c x g h0 h1 ⟨0, hn⟩ rfl r k
  | succ n ih =>
    by_cases hz : (n + 1) % 6 = 0
    · exact scratch_first m c x g h0 h1 ⟨n + 1, hn⟩ hz r k
    · rw [outsAt0_B m c ⟨n + 1, hn⟩ hz]
      refine (ih (Nat.lt_of_succ_lt hn)).trans ?_
      rw [show (n + 1) / 6 = n / 6 by omega]

include h0 h1 h2 in
/-- What a point leaves in its block of the result. -/
theorem block (t : Fin cfg0.N) (r : Fin 512) (j : Fin 1024) : (outsAt0 m c t.val t.isLt).1 (ix2 r j)
    = ∑ k : Fin 2048, norm (row x (t.val / 6 * 512 + r.val)) g k.val * w k.val (t.val % 6 * 1024 + j.val) := by
  by_cases hz : t.val % 6 = 0
  · rw [outsAt0_A m c t hz]
    unfold out0_A_3
    frame_out
    pointwise [k0_pay1, k0_pay2]
    simp only [blk0 m c x h0, blk1 m c g h1, blk2 m c w h2]
    rfl
  · rw [outsAt0_B m c t hz]
    unfold out0_B_3
    frame_out
    pointwise [k0_pay2]
    refine Finset.sum_congr rfl fun k _ => congrArg₂ (· * ·)
      ((congrFun (Memref.IsWhole.read_unread _ _) _).trans ((scratch m c x g h0 h1 _ _ r k).trans ?_)) (blk2 m c w h2 t k j)
    rw [show (t.val - 1) / 6 = t.val / 6 by omega]

include h0 h1 h2 in
/-- What the call leaves. -/
theorem kernel_value : (dats m 0 c).arrAt 3 cfg0.N = fun i : S32768x6144.Idx =>
    proj x g w ((i 0).val / 16384) ((i 0).val % 16384) (i 1).val := by
  refine (dats m 0 c).arrAt_eq_of_covers 3 _ (by decide +kernel) fun t _ p => ?_
  blk_simp
  rw [after0_3]
  have hp : p = ix2 (p 0) (p 1) := by
    funext d; match d with
    | 0 => rfl
    | 1 => rfl
  refine (congrArg (outsAt0 m c t.val t.isLt).1 hp).trans ((block m c x g w h0 h1 h2 t (p 0) (p 1)).trans ?_)
  blk_simp [idx t]
  rfl
end

open Cert.HyenaInRefIdeal Cert.HyenaInRefIdeal.Read in
/-- What the reference computes. -/
theorem reference_value (a0 : S2x16384x2048.Idx → EReal) (a1 : S2048.Idx → EReal) (a2 : S2048x6144.Idx → EReal)
    (x : ℕ → ℕ → ℕ → EReal) (g : ℕ → EReal) (w : ℕ → ℕ → EReal) (h0 : ∀ i, a0 i = x (i 0).val (i 1).val (i 2).val)
    (h1 : ∀ i, a1 i = g (i 0).val) (h2 : ∀ i, a2 i = w (i 0).val (i 1).val) (i : S32768x6144.Idx) :
    val_main_v15 (F := Ideal) a0 a1 a2 i = proj x g w ((i 0).val / 16384) ((i 0).val % 16384) (i 1).val := by
  have e : ∀ i : S2x16384x2048.Idx, val_main_v12 (F := Ideal) a0 a1 i = norm (x (i 0).val (i 1).val) g (i 2).val := fun i => by
    idx_vars i
    pointwise [val_main_v12, val_main_v11, val_main_v10, val_main_v9, val_main_v8, val_main_v7, val_main_v6, val_main_v5, val_main_cst_1,
      val_main_v4, val_main_v3, val_main_cst_0, val_main_v2, val_main_v1, val_main_cst, val_main_v0]
    simp only [h0, h1]
    rfl
  have e' : ∀ i : S2x16384x6144.Idx, val_main_v13 (F := Ideal) a0 a1 a2 i = proj x g w (i 0).val (i 1).val (i 2).val := fun i => by
    rw [val_main_v13_apply]
    exact Finset.sum_congr rfl fun k _ => congrArg₂ (· * ·) (e _) (h2 _)
  unfold val_main_v15 val_main_v14
  generalize val_main_v13 (F := Ideal) a0 a1 a2 = z at e'
  idx_vars i
  pointwise
  exact e' _

/-- The reference runs to the end. -/
theorem reference_runs : Cert.quiescent_HyenaInRefIdeal := fun m ρ _ =>
  (θ_run Cert.HyenaInRefIdeal.defs _ _).mono
    (fun r h => ⟨fun c => (h c).2, Idealize.ShloMosaic.sem_eq_zero_of_no_sems (by decide) r.2⟩)
    (Cert.HyenaInRefIdeal.Value.run (F := Ideal) m ρ)

/-- The call's result is the reference's, on any arguments. -/
theorem equal : Cert.algebraic_HyenaInIdeal_HyenaInRefIdeal := by
  intro m g m' g' _ hagree
  refine ⟨fun c => (Cert.HyenaInIdeal.Gen.dats m 0 c).arrAt 3 Cert.HyenaInIdeal.cfg0.N,
    Cert.HyenaInIdeal.Value.run_blocks m g, ?_⟩
  refine (θ_run Cert.HyenaInRefIdeal.defs _ _).mono (fun r h c => ⟨(h c).1.trans ?_, (h c).2⟩)
    (Cert.HyenaInRefIdeal.Value.run (F := Ideal) m' g')
  obtain ⟨e0, e1, e2⟩ := hagree c
  refine (Cert.HyenaInRefIdeal.Read.val_main_v15_eq (F := Ideal) _ _ _).trans ?_
  refine Eq.trans ?_ (kernel_value m c _ _ _ (at3_eq (n := 2) (p := 16384) (q := 2048) _) (at1E_eq (n := 2048) _)
    (atE_eq (n := 2048) (p := 6144) _)).symm
  rw [← e0, ← e1, ← e2]
  funext i
  exact reference_value _ _ _ _ _ _ (at3_eq (n := 2) (p := 16384) (q := 2048) _) (at1E_eq (n := 2048) _)
    (atE_eq (n := 2048) (p := 6144) _) i

end Cert.Block.HyenaIn

end
-- ==== Proof.HyenaOut.lean ====
/- The output projection of the convolution block: the call's result is the reference's. -/
module

public import proofs.«01_k».proof.Defs
public import proofs.«01_k».proof.Proof.Gen.HyenaOutIdeal.Value
public import proofs.«01_k».proof.Proof.Gen.HyenaOutRefIdeal.Read
public import proofs.«01_k».proof.Proof.Places
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Block.HyenaOut

open Cert.RealLemmas

/-- What both programs compute: the stream plus the gated rows times the output weights. -/
def out (x y : ℕ → ℕ → ℕ → EReal) (w : ℕ → ℕ → EReal) (b l j : ℕ) : EReal :=
  x b l j + ∑ k : Fin 2048, y b l k.val * w k.val j

section
open Cert.HyenaOutIdeal Cert.HyenaOutIdeal.Gen
variable (m : (ℓ : Loc nD τ sig) → Buf (Elt Ideal) ℓ) (c : Dev nD)
variable (x y : ℕ → ℕ → ℕ → EReal) (w : ℕ → ℕ → EReal)
  (h0 : ∀ i : S2x16384x2048.Idx, m ((c : Thread nD τ).loc main_arg0) i = x (i 0).val (i 1).val (i 2).val)
  (h1 : ∀ i : S2x16384x2048.Idx, m ((c : Thread nD τ).loc main_arg1) i = y (i 0).val (i 1).val (i 2).val)
  (h2 : ∀ i : S2048x2048.Idx, m ((c : Thread nD τ).loc main_arg2) i = w (i 0).val (i 1).val)

/-- The windows' index maps. -/
theorem idx : ∀ t : Fin cfg0.N,
    win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, _)

include h0 in
/-- The stream's rows, as the call reads them. -/
theorem rows_x (i : S32768x2048.Idx) : V m c main_v0 i = x ((i 0).val / 16384) ((i 0).val % 16384) (i 1).val := by
  unfold V
  after_results
  idx_vars i
  pointwise
  exact h0 _

include h1 in
/-- The gated rows, as the call reads them. -/
theorem rows_y (i : S32768x2048.Idx) : V m c main_v1 i = y ((i 0).val / 16384) ((i 0).val % 16384) (i 1).val := by
  unfold V
  after_results
  idx_vars i
  pointwise
  exact h1 _

include h2 in
/-- The weights, as the call reads them. -/
theorem weights (i : S2048x2048.Idx) : V m c main_v2 i = w (i 0).val (i 1).val := by
  unfold V
  after_results
  idx_vars i
  pointwise
  exact h2 _

include h0 h1 h2 in
/-- What the call leaves. -/
theorem kernel_value : (dats m 0 c).arrAt 3 cfg0.N = fun i : S32768x2048.Idx =>
    out x y w ((i 0).val / 16384) ((i 0).val % 16384) (i 1).val := by
  refine (dats m 0 c).arrAt_eq_of_covers 3 _ (by decide +kernel) fun t _ p => ?_
  blk_simp
  rw [after0_3]
  unfold out0_3
  frame_out
  pointwise [k0_pay1]
  blk_simp [iblk]
  refine congrArg₂ (· + ·) ((rows_x m c x h0 _).trans ?_)
    (Finset.sum_congr rfl fun k _ => congrArg₂ (· * ·) ((rows_y m c y h1 _).trans ?_) ((weights m c w h2 _).trans ?_)) <;> blk_simp [idx t] <;> rfl
end

open Cert.HyenaOutRefIdeal Cert.HyenaOutRefIdeal.Read in
/-- What the reference computes. -/
theorem reference_value (a0 : S2x16384x2048.Idx → EReal) (a1 : S2x16384x2048.Idx → EReal) (a2 : S2048x2048.Idx → EReal)
    (x y : ℕ → ℕ → ℕ → EReal) (w : ℕ → ℕ → EReal) (h0 : ∀ i, a0 i = x (i 0).val (i 1).val (i 2).val)
    (h1 : ∀ i, a1 i = y (i 0).val (i 1).val (i 2).val) (h2 : ∀ i, a2 i = w (i 0).val (i 1).val) (i : S32768x2048.Idx) :
    val_main_v3 (F := Ideal) a0 a1 a2 i = out x y w ((i 0).val / 16384) ((i 0).val % 16384) (i 1).val := by
  have e : ∀ i : S2x16384x2048.Idx, val_main_v2 (F := Ideal) a0 a1 a2 i = out x y w (i 0).val (i 1).val (i 2).val := fun i => by
    rw [val_main_v2_apply, val_main_v1_apply]
    exact congrArg₂ (· + ·) (h0 _) (Finset.sum_congr rfl fun k _ => congrArg₂ (· * ·) (h1 _) (h2 _))
  unfold val_main_v3
  generalize val_main_v2 (F := Ideal) a0 a1 a2 = z at e
  idx_vars i
  pointwise
  exact e _

/-- The reference runs to the end. -/
theorem reference_runs : Cert.quiescent_HyenaOutRefIdeal := fun m ρ _ =>
  (θ_run Cert.HyenaOutRefIdeal.defs _ _).mono
    (fun r h => ⟨fun c => (h c).2, Idealize.ShloMosaic.sem_eq_zero_of_no_sems (by decide) r.2⟩)
    (Cert.HyenaOutRefIdeal.Value.run (F := Ideal) m ρ)

/-- The call's result is the reference's, on any arguments. -/
theorem equal : Cert.algebraic_HyenaOutIdeal_HyenaOutRefIdeal := by
  intro m g m' g' _ hagree
  refine ⟨fun c => (Cert.HyenaOutIdeal.Gen.dats m 0 c).arrAt 3 Cert.HyenaOutIdeal.cfg0.N,
    Cert.HyenaOutIdeal.Value.run_blocks m g, ?_⟩
  refine (θ_run Cert.HyenaOutRefIdeal.defs _ _).mono (fun r h c => ⟨(h c).1.trans ?_, (h c).2⟩)
    (Cert.HyenaOutRefIdeal.Value.run (F := Ideal) m' g')
  obtain ⟨e0, e1, e2⟩ := hagree c
  refine (Cert.HyenaOutRefIdeal.Read.val_main_v3_eq (F := Ideal) _ _ _).trans ?_
  refine Eq.trans ?_ (kernel_value m c _ _ _ (at3_eq (n := 2) (p := 16384) (q := 2048) _) (at3_eq (n := 2) (p := 16384) (q := 2048) _)
    (atE_eq (n := 2048) (p := 2048) _)).symm
  rw [← e0, ← e1, ← e2]
  funext i
  exact reference_value _ _ _ _ _ _ (at3_eq (n := 2) (p := 16384) (q := 2048) _) (at3_eq (n := 2) (p := 16384) (q := 2048) _)
    (atE_eq (n := 2048) (p := 2048) _) i

end Cert.Block.HyenaOut

end
-- ==== Proof.Combine.lean ====
/- The last call of the model, on the first batch: the call's result is the reference's. -/
module

public import proofs.«01_k».proof.Defs
public import proofs.«01_k».proof.Proof.Gen.CombineIdeal.Value
public import proofs.«01_k».proof.Proof.Gen.CombineRefIdeal.Read
public import proofs.«01_k».proof.Proof.Places
public import proofs.«01_k».proof.Proof.Reg03
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Block.Combine

open Cert.RealLemmas Cert.KernelIdeal.Reg

/-- The stream plus the token's two expert rows, normalized: `n` tokens in sequences of `L`. -/
def comb (n L : ℕ) (x : ℕ → ℕ → ℕ → EReal) (y : ℕ → ℕ → EReal) (g : ℕ → EReal) (b l k : ℕ) : EReal :=
  rms 2048 (Ideal.ofBits .f32 0x45000000#32) (fun j => x b l j + y (b * L + l) j + y (n + (b * L + l)) j) g k

open Cert.CombineIdeal Cert.CombineIdeal.Gen in
/-- What the body computes of a block's rows. -/
theorem payload (x0 x1 x2 : Vec Ideal S512x2048 .f32) (x3 : Vec Ideal S1x2048 .f32) (X A B : ℕ → EReal) (g : ℕ → EReal) (r : Fin 512)
    (e0 : ∀ k, x0 (ix2 r k) = X k.val) (e1 : ∀ k, x1 (ix2 r k) = A k.val) (e2 : ∀ k, x2 (ix2 r k) = B k.val)
    (e3 : ∀ k, x3 (ix2 0 k) = g k.val) (k : Fin 2048) :
    k0_pay1 (F := Ideal) x0 x1 x2 x3 (ix2 r k) = rms 2048 (Ideal.ofBits .f32 0x45000000#32) (fun j => X j + A j + B j) g k.val := by
  pointwise [k0_pay1]
  simp only [e0, e1, e2, e3]
  rfl

section
open Cert.CombineIdeal Cert.CombineIdeal.Gen
variable (m : (ℓ : Loc nD τ sig) → Buf (Elt Ideal) ℓ) (c : Dev nD)
variable (x : ℕ → ℕ → ℕ → EReal) (y : ℕ → ℕ → EReal) (g : ℕ → EReal)
  (h0 : ∀ i : S2x16384x2048.Idx, m ((c : Thread nD τ).loc main_arg0) i = x (i 0).val (i 1).val (i 2).val)
  (h1 : ∀ i : S65792x2048.Idx, m ((c : Thread nD τ).loc main_arg1) i = y (i 0).val (i 1).val)
  (h2 : ∀ i : S2048.Idx, m ((c : Thread nD τ).loc main_arg2) i = g (i 0).val)

/-- The windows' index maps. -/
theorem idx : ∀ t : Fin cfg0.N,
    win0_0.index t = ![t.val, 0] ∧ win0_1.index t = ![t.val, 0] ∧ win0_2.index t = ![t.val + 64, 0]
    ∧ win0_3.index t = ![0, 0] ∧ win0_4.index t = ![t.val, 0] :=
  (by decide +kernel : ∀ t : Fin grid0.N, _)

include h0 in
/-- The stream's rows, as the call reads them. -/
theorem rows_x (i : S32768x2048.Idx) : V m c main_v0 i = x ((i 0).val / 16384) ((i 0).val % 16384) (i 1).val := by
  unfold V
  after_results
  idx_vars i
  pointwise
  exact h0 _

include h2 in
/-- The gain, as the call reads it. -/
theorem gain (i : S1x2048.Idx) : V m c main_v1 i = g (i 1).val := by
  unfold V
  after_results
  idx_vars i
  pointwise
  exact h2 _

include h1 in
/-- The experts' rows, as the call reads them. -/
theorem rows_y (i : S65792x2048.Idx) : V m c main_arg1 i = y (i 0).val (i 1).val :=
  (congrFun (V_main_arg1 m c) i).trans (h1 i)

include h0 h1 h2 in
/-- What a point leaves in its block of the result. -/
theorem block (t : Fin cfg0.N) (r : Fin 512) (k : Fin 2048) : outsAt0 m c t (ix2 r k)
    = comb 32768 16384 x y g ((t.val * 512 + r.val) / 16384) ((t.val * 512 + r.val) % 16384) k.val := by
  have e0 : ∀ k : Fin 2048, iblk m c 0 t (ix2 r k) = x ((t.val * 512 + r.val) / 16384) ((t.val * 512 + r.val) % 16384) k.val := fun k => by
    blk_simp [iblk]
    refine (rows_x m c x h0 _).trans ?_
    blk_simp [idx t]
  have e1 : ∀ k : Fin 2048, X0_1 m c t (ix2 r k) = y (t.val * 512 + r.val) k.val := fun k => by
    unfold X0_1 Pipeline.Window.fill
    rw [dif_pos (moved0_1 t _)]
    blk_simp [iblk]
    refine (rows_y m c y h1 _).trans ?_
    blk_simp [idx t]
  have e2 : ∀ k : Fin 2048, X0_2 m c t (ix2 r k) = y (32768 + (t.val * 512 + r.val)) k.val := fun k => by
    unfold X0_2 Pipeline.Window.fill
    rw [dif_pos (moved0_2 t _)]
    blk_simp [iblk]
    refine (rows_y m c y h1 _).trans ?_
    blk_simp [idx t]
    rw [show (t.val + 64) * 512 + r.val = 32768 + (t.val * 512 + r.val) by omega]
  have e3 : ∀ k : Fin 2048, iblk m c 3 t (ix2 0 k) = g k.val := fun k => by
    blk_simp [iblk]
    refine (gain m c g h2 _).trans ?_
    blk_simp [idx t]
  unfold outsAt0 out0_A_4
  frame_out
  unfold comb
  rw [show (t.val * 512 + r.val) / 16384 * 16384 + (t.val * 512 + r.val) % 16384 = t.val * 512 + r.val by omega]
  exact payload _ _ _ _ (x ((t.val * 512 + r.val) / 16384) ((t.val * 512 + r.val) % 16384)) _ (y (32768 + (t.val * 512 + r.val))) g r e0 e1 e2 e3 k

include h0 h1 h2 in
/-- What the call leaves. -/
theorem kernel_value : (dats m 0 c).arrAt 4 cfg0.N = fun i : S32768x2048.Idx =>
    comb 32768 16384 x y g ((i 0).val / 16384) ((i 0).val % 16384) (i 1).val := by
  refine (dats m 0 c).arrAt_eq_of_covers 4 _ (by decide +kernel) fun t _ p => ?_
  blk_simp
  rw [after0_4]
  have hp : p = ix2 (p 0) (p 1) := by
    funext d; match d with
    | 0 => rfl
    | 1 => rfl
  refine (congrArg (outsAt0 m c t) hp).trans ((block m c x y g h0 h1 h2 t (p 0) (p 1)).trans ?_)
  blk_simp [idx t]
end

open Cert.CombineRefIdeal Cert.CombineRefIdeal.Read in
/-- What the reference computes. -/
theorem reference_value (a0 : S2x16384x2048.Idx → EReal) (a1 : S65792x2048.Idx → EReal) (a2 : S2048.Idx → EReal)
    (x : ℕ → ℕ → ℕ → EReal) (y : ℕ → ℕ → EReal) (g : ℕ → EReal) (h0 : ∀ i, a0 i = x (i 0).val (i 1).val (i 2).val)
    (h1 : ∀ i, a1 i = y (i 0).val (i 1).val) (h2 : ∀ i, a2 i = g (i 0).val) (i : S32768x2048.Idx) :
    val_main_v17 (F := Ideal) a0 a1 a2 i = comb 32768 16384 x y g ((i 0).val / 16384) ((i 0).val % 16384) (i 1).val := by
  have e : ∀ i : S2x16384x2048.Idx, val_main_v3 (F := Ideal) a0 a1 i
      = x (i 0).val (i 1).val (i 2).val + y ((i 0).val * 16384 + (i 1).val) (i 2).val + y (32768 + ((i 0).val * 16384 + (i 1).val)) (i 2).val := fun i => by
    idx_vars i
    pointwise [val_main_v3, val_main_v2, val_main_cst, val_main_v1, val_main_v0]
    rw [Fin.sum_univ_two, ← add_assoc, h0, h1, h1]
    exact congrArg₂ (· + ·) (congrArg (_ + y · _) (show 0 * 32768 + i0.val * 16384 + i1.val = i0.val * 16384 + i1.val by omega))
      (congrArg (y · _) (show 1 * 32768 + i0.val * 16384 + i1.val = 32768 + (i0.val * 16384 + i1.val) by omega))
  have e' : ∀ i : S2x16384x2048.Idx, val_main_v16 (F := Ideal) a0 a1 a2 i = comb 32768 16384 x y g (i 0).val (i 1).val (i 2).val := fun i => by
    unfold val_main_v16 val_main_v13 val_main_v12 val_main_v11 val_main_v10 val_main_v8 val_main_v6 val_main_v5 val_main_v4
    generalize val_main_v3 (F := Ideal) a0 a1 = z at e
    idx_vars i
    pointwise [val_main_v15, val_main_v14, val_main_v9, val_main_v7, val_main_cst_0, val_main_cst_1, val_main_cst_2]
    simp only [e, h2]
    rfl
  unfold val_main_v17
  generalize val_main_v16 (F := Ideal) a0 a1 a2 = z at e'
  idx_vars i
  pointwise
  exact e' _

/-- The reference runs to the end. -/
theorem reference_runs : Cert.quiescent_CombineRefIdeal := fun m ρ _ =>
  (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- The call's result is the reference's, on any arguments. -/
theorem equal : Cert.algebraic_CombineIdeal_CombineRefIdeal := by
  intro m g m' g' _ hagree
  refine ⟨fun c => (Cert.CombineIdeal.Gen.dats m 0 c).arrAt 4 Cert.CombineIdeal.cfg0.N,
    Cert.CombineIdeal.Value.run_blocks m g, ?_⟩
  refine (θ_run Cert.CombineRefIdeal.defs _ _).mono (fun r h c => ⟨(h c).1.trans ?_, (h c).2⟩)
    (Cert.CombineRefIdeal.Value.run (F := Ideal) m' g')
  obtain ⟨e0, e1, e2⟩ := hagree c
  refine (Cert.CombineRefIdeal.Read.val_main_v17_eq (F := Ideal) _ _ _).trans ?_
  refine Eq.trans ?_ (kernel_value m c _ _ _ (at3_eq (n := 2) (p := 16384) (q := 2048) _) (atE_eq (n := 65792) (p := 2048) _)
    (at1E_eq (n := 2048) _)).symm
  rw [← e0, ← e1, ← e2]
  funext i
  exact reference_value _ _ _ _ _ _ (at3_eq (n := 2) (p := 16384) (q := 2048) _) (atE_eq (n := 65792) (p := 2048) _)
    (at1E_eq (n := 2048) _) i

end Cert.Block.Combine

end
-- ==== Proof.HyenaConv.lean ====
/- Hyena's second call, the convolution over three neighbouring rows: the call's results are the reference's. -/
module

public import proofs.«01_k».proof.Defs
public import proofs.«01_k».proof.Proof.Gen.HyenaConvIdeal.Value
public import proofs.«01_k».proof.Proof.Gen.HyenaConvRefIdeal.Read
public import proofs.«01_k».proof.Proof.Places
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Block.HyenaConv

open Cert.RealLemmas

/-- Column `k` of row `l` of sequence `b` after the convolution: the row before, the row and the row after, weighted, and
    the bias; zeros stand before the first and after the last row. -/
def conv (u : ℕ → ℕ → ℕ → EReal) (w : ℕ → ℕ → EReal) (a : ℕ → EReal) (b l k : ℕ) : EReal :=
  (if l = 0 then 0 else u b (l - 1) k) * w 0 k + u b l k * w 1 k + (if l = 16383 then 0 else u b (l + 1) k) * w 2 k + a k

section
open Cert.HyenaConvIdeal Cert.HyenaConvIdeal.Gen

/-- What the body stores for one third of the columns. -/
def third (i : grid0.Coords) (x0 : Vec Ideal S1x256x2048 .bf16) (x1 x2 : Vec Ideal S1x1x2048 .bf16) (x3 : Vec Ideal S3x2048 .f32)
    (x4 : Vec Ideal S1x2048 .f32) : Vec Ideal S1x256x2048 .bf16 :=
  k0_pay5 (F := Ideal) (k0_pay3 i x0 x1 x3) (k0_pay4 i x0 x2 x3) x4

/-- A choice by whether two small numbers are the same. -/
theorem pick (e n : ℕ) (he : e < 256) (hn : n < 256) (x y : EReal) :
    Scalar.select (IntOp.cmpi CmpIPredicate.eq (BitVec.ofNat 32 e) (BitVec.ofNat 32 n)) x y = if e = n then x else y := by
  have key : IntOp.cmpi CmpIPredicate.eq (BitVec.ofNat 32 e) (BitVec.ofNat 32 n) = if e = n then 1#1 else 0#1 := by
    by_cases h : e = n
    · subst h; simp [IntOp.cmpi]
    · have : BitVec.ofNat 32 e ≠ BitVec.ofNat 32 n := fun h' => h (by
        have := congrArg BitVec.toNat h'
        simp only [BitVec.toNat_ofNat] at this
        omega)
      rw [if_neg h]
      show BitVec.ofBool (BitVec.ofNat 32 e == BitVec.ofNat 32 n) = 0#1
      rw [beq_eq_false_iff_ne.mpr this]
      rfl
  rw [key]
  by_cases h : e = n <;> simp [h, Scalar.select]

/-- What the body computes of a block's rows, for one third of the columns. -/
theorem payload (i : grid0.Coords) (x0 : Vec Ideal S1x256x2048 .bf16) (x1 x2 : Vec Ideal S1x1x2048 .bf16) (x3 : Vec Ideal S3x2048 .f32)
    (x4 : Vec Ideal S1x2048 .f32) (b s : ℕ) (u : ℕ → ℕ → ℕ → EReal) (w : ℕ → ℕ → EReal) (a : ℕ → EReal)
    (e0 : ∀ (r : Fin 256) (k : Fin 2048), x0 (ix3 0 r k) = u b ((i 1).val * 256 + r.val) (s + k.val))
    (e1 : ∀ k : Fin 2048, (i 1).val ≠ 0 → x1 (ix3 0 0 k) = u b ((i 1).val * 256 - 1) (s + k.val))
    (e2 : ∀ k : Fin 2048, (i 1).val ≠ 63 → x2 (ix3 0 0 k) = u b ((i 1).val * 256 + 256) (s + k.val))
    (e3 : ∀ (j : Fin 3) (k : Fin 2048), x3 (ix2 j k) = w j.val (s + k.val))
    (e4 : ∀ k : Fin 2048, x4 (ix2 0 k) = a (s + k.val)) (r : Fin 256) (k : Fin 2048) :
    third i x0 x1 x2 x3 x4 (ix3 0 r k) = conv u w a b ((i 1).val * 256 + r.val) (s + k.val) := by
  unfold third
  pointwise [k0_pay5, k0_pay4, k0_pay3, k0_pay2]
  have hi : (i 1).val < 64 := (i 1).isLt
  unfold conv
  refine congrArg₂ (· + ·) (congrArg₂ (· + ·) (congrArg₂ (· + ·) (congrArg₂ (· * ·) ?_ (e3 0 k)) (congrArg₂ (· * ·) (e0 r k) (e3 1 k)))
    (congrArg₂ (· * ·) ?_ (e3 2 k))) (e4 k)
  · refine (pick r.val 0 r.isLt (by decide) _ _).trans ?_
    by_cases hr : r.val = 0
    · refine (if_pos hr).trans ((pick (i 1).val 0 (by omega) (by decide) _ _).trans ?_)
      by_cases hc : (i 1).val = 0
      · rw [if_pos hc, if_pos (by omega)]
      · rw [if_neg hc, if_neg (by omega), e1 k hc, hr, Nat.add_zero]
    · refine (if_neg hr).trans ((e0 _ k).trans ?_)
      rw [if_neg (by omega)]
      exact congrArg (u b · _) (by show _ + (r.val + 256 - 1) % 256 = _; omega)
  · refine (pick r.val 255 r.isLt (by decide) _ _).trans ?_
    by_cases hr : r.val = 255
    · refine (if_pos hr).trans ((pick (i 1).val 63 (by omega) (by decide) _ _).trans ?_)
      by_cases hc : (i 1).val = 63
      · rw [if_pos hc, if_pos (by omega)]
      · rw [if_neg hc, if_neg (by omega), e2 k hc, hr]
    · refine (if_neg hr).trans ((e0 _ k).trans ?_)
      rw [if_neg (by omega)]
      exact congrArg (u b · _) (by show _ + (r.val + 256 - 255) % 256 = _; omega)

/-- The three thirds are computed alike. -/
theorem second (i : grid0.Coords) (x0 : Vec Ideal S1x256x2048 .bf16) (x1 x2 : Vec Ideal S1x1x2048 .bf16) (x3 : Vec Ideal S3x2048 .f32)
    (x4 : Vec Ideal S1x2048 .f32) :
    k0_pay10 (F := Ideal) (k0_pay6 x0) (k0_pay7 (Scalar.cmpi .eq (BitVec.ofNat 32 (i 1).val) 0#32) x0 x1)
      (k0_pay8 (Scalar.cmpi .eq (BitVec.ofNat 32 (i 1).val) 63#32) x0 x2) x3 (k0_pay9 x3) x4 = third i x0 x1 x2 x3 x4 := rfl

/-- The three thirds are computed alike. -/
theorem last (i : grid0.Coords) (x0 : Vec Ideal S1x256x2048 .bf16) (x1 x2 : Vec Ideal S1x1x2048 .bf16) (x3 : Vec Ideal S3x2048 .f32)
    (x4 : Vec Ideal S1x2048 .f32) :
    k0_pay1 (F := Ideal) (k0_pay11 x0) (k0_pay12 (Scalar.cmpi .eq (BitVec.ofNat 32 (i 1).val) 63#32) x2)
      (k0_pay13 (Scalar.cmpi .eq (BitVec.ofNat 32 (i 1).val) 0#32) x0 x1) k0_pay14 x3 x4 = third i x0 x1 x2 x3 x4 := rfl

variable (m : (ℓ : Loc nD τ sig) → Buf (Elt Ideal) ℓ) (c : Dev nD)
variable (u : ℕ → ℕ → ℕ → EReal) (w : ℕ → ℕ → EReal) (a : ℕ → EReal)
  (h0 : ∀ i : S2x16384x6144.Idx, m ((c : Thread nD τ).loc main_arg0) i = u (i 0).val (i 1).val (i 2).val)
  (h1 : ∀ i : S3x6144.Idx, m ((c : Thread nD τ).loc main_arg1) i = w (i 0).val (i 1).val)
  (h2 : ∀ i : S6144.Idx, m ((c : Thread nD τ).loc main_arg2) i = a (i 0).val)

/-- The grid's points. -/
theorem at_point : ∀ t : Fin cfg0.N, (cfg0.grid.coords t 0).val = t.val / 64 ∧ (cfg0.grid.coords t 1).val = t.val % 64 :=
  (by decide +kernel : ∀ t : Fin grid0.N, _)

/-- The windows' index maps. -/
theorem idx : ∀ t : Fin cfg0.N,
    win0_0.index t = ![t.val / 64, t.val % 64, 0] ∧ win0_1.index t = ![t.val / 64, t.val % 64 * 16 - 1, 0]
    ∧ win0_2.index t = ![t.val / 64, min (t.val % 64 * 16 + 16) 1023, 0]
    ∧ win0_3.index t = ![0, 0] ∧ win0_4.index t = ![0, 0] ∧ win0_5.index t = ![t.val / 64, t.val % 64, 0]
    ∧ win0_6.index t = ![t.val / 64, t.val % 64, 0] ∧ win0_7.index t = ![t.val / 64, t.val % 64, 0] :=
  (by decide +kernel : ∀ t : Fin grid0.N, _)

include h2 in
/-- The bias, as the call reads it. -/
theorem bias (i : S1x6144.Idx) : V m c main_v0 i = a (i 1).val := by
  unfold V
  after_results
  idx_vars i
  pointwise
  exact h2 _

include h0 h1 h2 in
/-- One third of the columns, from column `s` on, of what a point leaves. -/
theorem columns (t : Fin cfg0.N) (s : ℕ) (hs : s + 2048 ≤ 6144)
    (b0 : ∀ d, (![0, 0, s] : Fin 3 → ℕ) d + S1x256x2048.size d ≤ S1x256x6144.size d)
    (b1 : ∀ d, (![0, 15, s] : Fin 3 → ℕ) d + S1x1x2048.size d ≤ S1x16x6144.size d)
    (b2 : ∀ d, (![0, 0, s] : Fin 3 → ℕ) d + S1x1x2048.size d ≤ S1x16x6144.size d)
    (b3 : ∀ d, (![0, s] : Fin 2 → ℕ) d + S3x2048.size d ≤ S3x6144.size d)
    (b4 : ∀ d, (![0, s] : Fin 2 → ℕ) d + S1x2048.size d ≤ S1x6144.size d) (r : Fin 256) (k : Fin 2048) :
    third (cfg0.grid.coords t) (View.ld (iblk m c 0 t) (Rect.unit (s := S1x256x6144) ![0, 0, s] S1x256x2048.size b0))
        (View.ld (iblk m c 1 t) (Rect.unit (s := S1x16x6144) ![0, 15, s] S1x1x2048.size b1))
        (View.ld (iblk m c 2 t) (Rect.unit (s := S1x16x6144) ![0, 0, s] S1x1x2048.size b2))
        (View.ld (iblk m c 3 t) (Rect.unit (s := S3x6144) ![0, s] S3x2048.size b3))
        (View.ld (iblk m c 4 t) (Rect.unit (s := S1x6144) ![0, s] S1x2048.size b4)) (ix3 0 r k)
      = conv u w a (t.val / 64) (t.val % 64 * 256 + r.val) (s + k.val) := by
  have hp := at_point t
  have h := payload (cfg0.grid.coords t) (View.ld (iblk m c 0 t) (Rect.unit (s := S1x256x6144) ![0, 0, s] S1x256x2048.size b0))
        (View.ld (iblk m c 1 t) (Rect.unit (s := S1x16x6144) ![0, 15, s] S1x1x2048.size b1))
        (View.ld (iblk m c 2 t) (Rect.unit (s := S1x16x6144) ![0, 0, s] S1x1x2048.size b2))
        (View.ld (iblk m c 3 t) (Rect.unit (s := S3x6144) ![0, s] S3x2048.size b3))
        (View.ld (iblk m c 4 t) (Rect.unit (s := S1x6144) ![0, s] S1x2048.size b4)) (t.val / 64) s u w a
    (fun r k => by
      pointwise
      blk_simp [iblk]
      refine ((congrFun (V_main_arg0 m c) _).trans (h0 _)).trans ?_
      blk_simp [idx t, hp]
      rfl)
    (fun k hk => by
      pointwise
      blk_simp [iblk]
      refine ((congrFun (V_main_arg0 m c) _).trans (h0 _)).trans ?_
      blk_simp [idx t, hp]
      rw [hp.2] at hk
      exact congrArg (u _ · _) (show (t.val % 64 * 16 - 1) * 16 + 15 = t.val % 64 * 256 - 1 by omega))
    (fun k hk => by
      pointwise
      blk_simp [iblk]
      refine ((congrFun (V_main_arg0 m c) _).trans (h0 _)).trans ?_
      blk_simp [idx t, hp]
      rw [hp.2] at hk
      exact congrArg (u _ · _) (show min (t.val % 64 * 16 + 16) 1023 * 16 + 0 = t.val % 64 * 256 + 256 by omega))
    (fun j k => by
      pointwise
      blk_simp [iblk]
      refine ((congrFun (V_main_arg1 m c) _).trans (h1 _)).trans ?_
      blk_simp [idx t])
    (fun k => by
      pointwise
      blk_simp [iblk]
      refine (bias m c a h2 _).trans ?_
      blk_simp [idx t]) r k
  rw [hp.2] at h
  exact h

/-- A place in a block of the result, by its row and column. -/
theorem row_column (p : S1x256x2048.Idx) : p = ix3 0 (p 1) (p 2) := by
  funext d; match d with
  | 0 => exact Subsingleton.elim (α := Fin 1) _ _
  | 1 => rfl
  | 2 => rfl

include h0 h1 h2 in
/-- What the call leaves in its first result. -/
theorem kernel_value5 : (dats m 0 c).arrAt 5 cfg0.N = fun i : S2x16384x2048.Idx => conv u w a (i 0).val (i 1).val (0 + (i 2).val) := by
  refine (dats m 0 c).arrAt_eq_of_covers 5 _ (by decide +kernel) fun t _ p => ?_
  blk_simp
  rw [after0_5]
  unfold out0_5
  frame_out
  refine (congrArg (third _ _ _ _ _ _) (row_column p)).trans ((columns m c u w a h0 h1 h2 t 0 (by decide) _ _ _ _ _ (p 1) (p 2)).trans ?_)
  blk_simp [idx t]

include h0 h1 h2 in
/-- What the call leaves in its second result. -/
theorem kernel_value6 : (dats m 0 c).arrAt 6 cfg0.N = fun i : S2x16384x2048.Idx => conv u w a (i 0).val (i 1).val (2048 + (i 2).val) := by
  refine (dats m 0 c).arrAt_eq_of_covers 6 _ (by decide +kernel) fun t _ p => ?_
  blk_simp
  rw [after0_6]
  unfold out0_6
  frame_out
  refine (congrFun (second _ _ _ _ _ _) p).trans ((congrArg (third _ _ _ _ _ _) (row_column p)).trans
    ((columns m c u w a h0 h1 h2 t 2048 (by decide) _ _ _ _ _ (p 1) (p 2)).trans ?_))
  blk_simp [idx t]

include h0 h1 h2 in
/-- What the call leaves in its third result. -/
theorem kernel_value7 : (dats m 0 c).arrAt 7 cfg0.N = fun i : S2x16384x2048.Idx => conv u w a (i 0).val (i 1).val (4096 + (i 2).val) := by
  refine (dats m 0 c).arrAt_eq_of_covers 7 _ (by decide +kernel) fun t _ p => ?_
  blk_simp
  rw [after0_7]
  unfold out0_7
  frame_out
  refine (congrFun (last _ _ _ _ _ _) p).trans ((congrArg (third _ _ _ _ _ _) (row_column p)).trans
    ((columns m c u w a h0 h1 h2 t 4096 (by decide) _ _ _ _ _ (p 1) (p 2)).trans ?_))
  blk_simp [idx t]

end

open Cert.HyenaConvRefIdeal Cert.HyenaConvRefIdeal.Read in
/-- What the reference computes, before it is split. -/
theorem reference_value (a0 : S2x16384x6144.Idx → EReal) (a1 : S3x6144.Idx → EReal) (a2 : S6144.Idx → EReal)
    (u : ℕ → ℕ → ℕ → EReal) (w : ℕ → ℕ → EReal) (a : ℕ → EReal) (h0 : ∀ i, a0 i = u (i 0).val (i 1).val (i 2).val)
    (h1 : ∀ i, a1 i = w (i 0).val (i 1).val) (h2 : ∀ i, a2 i = a (i 0).val) (i : S2x16384x6144.Idx) :
    val_main_v24 (F := Ideal) a0 a1 a2 i = conv u w a (i 0).val (i 1).val (i 2).val := by
  have e : ∀ i : S2x16386x6144.Idx, val_main_v1 (F := Ideal) a0 i
      = if 1 ≤ (i 1).val ∧ (i 1).val < 16385 then u (i 0).val ((i 1).val - 1) (i 2).val else 0 := fun i => by
    idx_vars i
    pointwise [val_main_v1, val_main_v0, val_main_call0_v0, val_main_c]
    by_cases hc : 1 ≤ i1.val ∧ i1.val - 1 < 16384
    · exact (dif_pos hc).trans ((h0 _).trans (if_pos (by omega)).symm)
    · refine (dif_neg hc).trans (Eq.trans ?_ (if_neg (by omega)).symm)
      show (((0#32 : BitVec 32).toInt : ℝ) : EReal) = 0
      simp
  unfold val_main_v24 val_main_v21 val_main_v20 val_main_v15 val_main_v14 val_main_v13 val_main_v8 val_main_v7 val_main_v2
  generalize val_main_v1 (F := Ideal) a0 = z at e
  idx_vars i
  pointwise [val_main_v23, val_main_v22, val_main_v19, val_main_v18, val_main_v17, val_main_v16, val_main_v12, val_main_v11, val_main_v10, val_main_v9,
    val_main_v6, val_main_v5, val_main_v4, val_main_v3]
  simp only [e, h1, h2]
  unfold conv
  refine congrArg₂ (· + ·) (congrArg₂ (· + ·) (congrArg₂ (· + ·) (congrArg (· * w 0 i2.val) ?_) (congrArg (· * w 1 i2.val) ?_))
    (congrArg (· * w 2 i2.val) ?_)) rfl
  · show (if 1 ≤ i1.val ∧ i1.val < 16385 then u i0.val (i1.val - 1) i2.val else 0) = if i1.val = 0 then 0 else u i0.val (i1.val - 1) i2.val
    by_cases hc : i1.val = 0
    · rw [if_neg (by omega), if_pos hc]
    · rw [if_pos (by omega), if_neg hc]
  · show (if 1 ≤ 1 + i1.val ∧ 1 + i1.val < 16385 then u i0.val (1 + i1.val - 1) i2.val else 0) = u i0.val i1.val i2.val
    rw [if_pos (by omega), Nat.add_sub_cancel_left]
  · show (if 1 ≤ 2 + i1.val ∧ 2 + i1.val < 16385 then u i0.val (2 + i1.val - 1) i2.val else 0) = if i1.val = 16383 then 0 else u i0.val (i1.val + 1) i2.val
    by_cases hc : i1.val = 16383
    · rw [if_neg (by omega), if_pos hc]
    · rw [if_pos (by omega), if_neg hc, show 2 + i1.val - 1 = i1.val + 1 by omega]

/-- The reference runs to the end. -/
theorem reference_runs : Cert.quiescent_HyenaConvRefIdeal := fun m ρ _ =>
  (θ_run Cert.HyenaConvRefIdeal.defs _ _).mono
    (fun r h => ⟨fun c => (h c).2.2.2, Idealize.ShloMosaic.sem_eq_zero_of_no_sems (by decide) r.2⟩)
    (Cert.HyenaConvRefIdeal.Value.run (F := Ideal) m ρ)

/-- The call's results are the reference's, on any arguments. -/
theorem equal : Cert.algebraic_HyenaConvIdeal_HyenaConvRefIdeal := by
  intro m g m' g' _ hagree
  refine ⟨fun c => (Cert.HyenaConvIdeal.Gen.dats m 0 c).arrAt 5 Cert.HyenaConvIdeal.cfg0.N,
    fun c => (Cert.HyenaConvIdeal.Gen.dats m 0 c).arrAt 6 Cert.HyenaConvIdeal.cfg0.N,
    fun c => (Cert.HyenaConvIdeal.Gen.dats m 0 c).arrAt 7 Cert.HyenaConvIdeal.cfg0.N,
    Cert.HyenaConvIdeal.Value.run_blocks m g, ?_⟩
  refine (θ_run Cert.HyenaConvRefIdeal.defs _ _).mono (fun r h c => ?_) (Cert.HyenaConvRefIdeal.Value.run (F := Ideal) m' g')
  obtain ⟨e0, e1, e2⟩ := hagree c
  have k0 := at3_eq (n := 2) (p := 16384) (q := 6144) (m ((c.tc : Thread Cert.HyenaConvIdeal.nD Cert.HyenaConvIdeal.τ).loc Cert.HyenaConvIdeal.main_arg0))
  have k1 := atE_eq (n := 3) (p := 6144) (m ((c.tc : Thread Cert.HyenaConvIdeal.nD Cert.HyenaConvIdeal.τ).loc Cert.HyenaConvIdeal.main_arg1))
  have k2 := at1E_eq (n := 6144) (m ((c.tc : Thread Cert.HyenaConvIdeal.nD Cert.HyenaConvIdeal.τ).loc Cert.HyenaConvIdeal.main_arg2))
  have v := fun i => reference_value _ _ _ _ _ _ k0 k1 k2 i
  refine ⟨(h c).1.trans ?_, (h c).2.1.trans ?_, (h c).2.2.1.trans ?_, (h c).2.2.2⟩
  · refine (Cert.HyenaConvRefIdeal.Read.val_main_v28_eq (F := Ideal) _ _ _).trans ?_
    rw [e0, e1, e2]
    refine Eq.trans ?_ (kernel_value5 m c _ _ _ k0 k1 k2).symm
    funext i
    rw [Cert.HyenaConvRefIdeal.Read.val_main_v28_apply, Cert.HyenaConvRefIdeal.Read.val_main_v25_apply]
    exact (v _).trans (congrArg (conv _ _ _ _ _) (Nat.zero_add _).symm)
  · refine (Cert.HyenaConvRefIdeal.Read.val_main_v29_eq (F := Ideal) _ _ _).trans ?_
    rw [e0, e1, e2]
    refine Eq.trans ?_ (kernel_value6 m c _ _ _ k0 k1 k2).symm
    funext i
    rw [Cert.HyenaConvRefIdeal.Read.val_main_v29_apply, Cert.HyenaConvRefIdeal.Read.val_main_v26_apply]
    exact v _
  · refine (Cert.HyenaConvRefIdeal.Read.val_main_v30_eq (F := Ideal) _ _ _).trans ?_
    rw [e0, e1, e2]
    refine Eq.trans ?_ (kernel_value7 m c _ _ _ k0 k1 k2).symm
    funext i
    rw [Cert.HyenaConvRefIdeal.Read.val_main_v30_apply, Cert.HyenaConvRefIdeal.Read.val_main_v27_apply]
    exact v _

end Cert.Block.HyenaConv

end
-- ==== Proof.CombineSample.lean ====
/- The last call of the model, on the second batch: the call's result is the reference's. -/
module

public import proofs.«01_k».proof.Defs
public import proofs.«01_k».proof.Proof.Gen.CombineSampleIdeal.Value
public import proofs.«01_k».proof.Proof.Gen.CombineSampleRefIdeal.Read
public import proofs.«01_k».proof.Proof.Combine
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Block.CombineSample

open Cert.RealLemmas Cert.Block.Combine

section
open Cert.CombineSampleIdeal Cert.CombineSampleIdeal.Gen
variable (m : (ℓ : Loc nD τ sig) → Buf (Elt Ideal) ℓ) (c : Dev nD)
variable (x : ℕ → ℕ → ℕ → EReal) (y : ℕ → ℕ → EReal) (g : ℕ → EReal)
  (h0 : ∀ i : S4x2048x2048.Idx, m ((c : Thread nD τ).loc main_arg0) i = x (i 0).val (i 1).val (i 2).val)
  (h1 : ∀ i : S16640x2048.Idx, m ((c : Thread nD τ).loc main_arg1) i = y (i 0).val (i 1).val)
  (h2 : ∀ i : S2048.Idx, m ((c : Thread nD τ).loc main_arg2) i = g (i 0).val)

/-- The windows' index maps. -/
theorem idx : ∀ t : Fin cfg0.N,
    win0_0.index t = ![t.val, 0] ∧ win0_1.index t = ![t.val, 0] ∧ win0_2.index t = ![t.val + 16, 0]
    ∧ win0_3.index t = ![0, 0] ∧ win0_4.index t = ![t.val, 0] :=
  (by decide +kernel : ∀ t : Fin grid0.N, _)

include h0 in
/-- The stream's rows, as the call reads them. -/
theorem rows_x (i : S8192x2048.Idx) : V m c main_v0 i = x ((i 0).val / 2048) ((i 0).val % 2048) (i 1).val := by
  unfold V
  after_results
  idx_vars i
  pointwise
  exact h0 _

include h2 in
/-- The gain, as the call reads it. -/
theorem gain (i : S1x2048.Idx) : V m c main_v1 i = g (i 1).val := by
  unfold V
  after_results
  idx_vars i
  pointwise
  exact h2 _

include h1 in
/-- The experts' rows, as the call reads them. -/
theorem rows_y (i : S16640x2048.Idx) : V m c main_arg1 i = y (i 0).val (i 1).val :=
  (congrFun (V_main_arg1 m c) i).trans (h1 i)

include h0 h1 h2 in
/-- What a point leaves in its block of the result. -/
theorem block (t : Fin cfg0.N) (r : Fin 512) (k : Fin 2048) : outsAt0 m c t (ix2 r k)
    = comb 8192 2048 x y g ((t.val * 512 + r.val) / 2048) ((t.val * 512 + r.val) % 2048) k.val := by
  have e0 : ∀ k : Fin 2048, iblk m c 0 t (ix2 r k) = x ((t.val * 512 + r.val) / 2048) ((t.val * 512 + r.val) % 2048) k.val := fun k => by
    blk_simp [iblk]
    refine (rows_x m c x h0 _).trans ?_
    blk_simp [idx t]
  have e1 : ∀ k : Fin 2048, X0_1 m c t (ix2 r k) = y (t.val * 512 + r.val) k.val := fun k => by
    unfold X0_1 Pipeline.Window.fill
    rw [dif_pos (moved0_1 t _)]
    blk_simp [iblk]
    refine (rows_y m c y h1 _).trans ?_
    blk_simp [idx t]
  have e2 : ∀ k : Fin 2048, X0_2 m c t (ix2 r k) = y (8192 + (t.val * 512 + r.val)) k.val := fun k => by
    unfold X0_2 Pipeline.Window.fill
    rw [dif_pos (moved0_2 t _)]
    blk_simp [iblk]
    refine (rows_y m c y h1 _).trans ?_
    blk_simp [idx t]
    rw [show (t.val + 16) * 512 + r.val = 8192 + (t.val * 512 + r.val) by omega]
  have e3 : ∀ k : Fin 2048, iblk m c 3 t (ix2 0 k) = g k.val := fun k => by
    blk_simp [iblk]
    refine (gain m c g h2 _).trans ?_
    blk_simp [idx t]
  unfold outsAt0 out0_A_4
  frame_out
  unfold comb
  rw [show (t.val * 512 + r.val) / 2048 * 2048 + (t.val * 512 + r.val) % 2048 = t.val * 512 + r.val by omega]
  exact payload _ _ _ _ (x ((t.val * 512 + r.val) / 2048) ((t.val * 512 + r.val) % 2048)) _ (y (8192 + (t.val * 512 + r.val))) g r e0 e1 e2 e3 k

include h0 h1 h2 in
/-- What the call leaves. -/
theorem kernel_value : (dats m 0 c).arrAt 4 cfg0.N = fun i : S8192x2048.Idx =>
    comb 8192 2048 x y g ((i 0).val / 2048) ((i 0).val % 2048) (i 1).val := by
  refine (dats m 0 c).arrAt_eq_of_covers 4 _ (by decide +kernel) fun t _ p => ?_
  blk_simp
  rw [after0_4]
  have hp : p = ix2 (p 0) (p 1) := by
    funext d; match d with
    | 0 => rfl
    | 1 => rfl
  refine (congrArg (outsAt0 m c t) hp).trans ((block m c x y g h0 h1 h2 t (p 0) (p 1)).trans ?_)
  blk_simp [idx t]
end

open Cert.CombineSampleRefIdeal Cert.CombineSampleRefIdeal.Read in
/-- What the reference computes. -/
theorem reference_value (a0 : S4x2048x2048.Idx → EReal) (a1 : S16640x2048.Idx → EReal) (a2 : S2048.Idx → EReal)
    (x : ℕ → ℕ → ℕ → EReal) (y : ℕ → ℕ → EReal) (g : ℕ → EReal) (h0 : ∀ i, a0 i = x (i 0).val (i 1).val (i 2).val)
    (h1 : ∀ i, a1 i = y (i 0).val (i 1).val) (h2 : ∀ i, a2 i = g (i 0).val) (i : S8192x2048.Idx) :
    val_main_v17 (F := Ideal) a0 a1 a2 i = comb 8192 2048 x y g ((i 0).val / 2048) ((i 0).val % 2048) (i 1).val := by
  have e : ∀ i : S4x2048x2048.Idx, val_main_v3 (F := Ideal) a0 a1 i
      = x (i 0).val (i 1).val (i 2).val + y ((i 0).val * 2048 + (i 1).val) (i 2).val + y (8192 + ((i 0).val * 2048 + (i 1).val)) (i 2).val := fun i => by
    idx_vars i
    pointwise [val_main_v3, val_main_v2, val_main_cst, val_main_v1, val_main_v0]
    rw [Fin.sum_univ_two, ← add_assoc, h0, h1, h1]
    exact congrArg₂ (· + ·) (congrArg (_ + y · _) (show 0 * 8192 + i0.val * 2048 + i1.val = i0.val * 2048 + i1.val by omega))
      (congrArg (y · _) (show 1 * 8192 + i0.val * 2048 + i1.val = 8192 + (i0.val * 2048 + i1.val) by omega))
  have e' : ∀ i : S4x2048x2048.Idx, val_main_v16 (F := Ideal) a0 a1 a2 i = comb 8192 2048 x y g (i 0).val (i 1).val (i 2).val := fun i => by
    unfold val_main_v16 val_main_v13 val_main_v12 val_main_v11 val_main_v10 val_main_v8 val_main_v6 val_main_v5 val_main_v4
    generalize val_main_v3 (F := Ideal) a0 a1 = z at e
    idx_vars i
    pointwise [val_main_v15, val_main_v14, val_main_v9, val_main_v7, val_main_cst_0, val_main_cst_1, val_main_cst_2]
    simp only [e, h2]
    rfl
  unfold val_main_v17
  generalize val_main_v16 (F := Ideal) a0 a1 a2 = z at e'
  idx_vars i
  pointwise
  exact e' _

/-- The reference runs to the end. -/
theorem reference_runs : Cert.quiescent_CombineSampleRefIdeal := fun m ρ _ =>
  (θ_run Cert.CombineSampleRefIdeal.defs _ _).mono
    (fun r h => ⟨fun c => (h c).2, Idealize.ShloMosaic.sem_eq_zero_of_no_sems (by decide) r.2⟩)
    (Cert.CombineSampleRefIdeal.Value.run (F := Ideal) m ρ)

/-- The call's result is the reference's, on any arguments. -/
theorem equal : Cert.algebraic_CombineSampleIdeal_CombineSampleRefIdeal := by
  intro m g m' g' _ hagree
  refine ⟨fun c => (Cert.CombineSampleIdeal.Gen.dats m 0 c).arrAt 4 Cert.CombineSampleIdeal.cfg0.N,
    Cert.CombineSampleIdeal.Value.run_blocks m g, ?_⟩
  refine (θ_run Cert.CombineSampleRefIdeal.defs _ _).mono (fun r h c => ⟨(h c).1.trans ?_, (h c).2⟩)
    (Cert.CombineSampleRefIdeal.Value.run (F := Ideal) m' g')
  obtain ⟨e0, e1, e2⟩ := hagree c
  refine (Cert.CombineSampleRefIdeal.Read.val_main_v17_eq (F := Ideal) _ _ _).trans ?_
  refine Eq.trans ?_ (kernel_value m c _ _ _ (at3_eq (n := 4) (p := 2048) (q := 2048) _) (atE_eq (n := 16640) (p := 2048) _)
    (at1E_eq (n := 2048) _)).symm
  rw [← e0, ← e1, ← e2]
  funext i
  exact reference_value _ _ _ _ _ _ (at3_eq (n := 4) (p := 2048) (q := 2048) _) (atE_eq (n := 16640) (p := 2048) _)
    (at1E_eq (n := 2048) _) i

end Cert.Block.CombineSample

end
-- ==== Proof.CombineFirst.lean ====
/- The last call of the first layer's experts, which adds without a normalization: the call's result is the reference's. -/
module

public import proofs.«01_k».proof.Defs
public import proofs.«01_k».proof.Proof.Gen.CombineFirstIdeal.Value
public import proofs.«01_k».proof.Proof.Gen.CombineFirstRefIdeal.Read
public import proofs.«01_k».proof.Proof.Places
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Block.CombineFirst

open Cert.RealLemmas

/-- The stream plus the token's two expert rows: 32768 tokens in sequences of 16384. -/
def added (x : ℕ → ℕ → ℕ → EReal) (y : ℕ → ℕ → EReal) (b l k : ℕ) : EReal :=
  x b l k + y (b * 16384 + l) k + y (32768 + (b * 16384 + l)) k

open Cert.CombineFirstIdeal Cert.CombineFirstIdeal.Gen in
/-- What the body computes of a block's rows. -/
theorem payload (x0 x1 x2 : Vec Ideal S512x2048 .f32) (r : Fin 512) (k : Fin 2048) :
    k0_pay1 (F := Ideal) x0 x1 x2 (ix2 r k) = x0 (ix2 r k) + x1 (ix2 r k) + x2 (ix2 r k) := by
  pointwise [k0_pay1]

section
open Cert.CombineFirstIdeal Cert.CombineFirstIdeal.Gen
variable (m : (ℓ : Loc nD τ sig) → Buf (Elt Ideal) ℓ) (c : Dev nD)
variable (x : ℕ → ℕ → ℕ → EReal) (y : ℕ → ℕ → EReal)
  (h0 : ∀ i : S2x16384x2048.Idx, m ((c : Thread nD τ).loc main_arg0) i = x (i 0).val (i 1).val (i 2).val)
  (h1 : ∀ i : S65792x2048.Idx, m ((c : Thread nD τ).loc main_arg1) i = y (i 0).val (i 1).val)

/-- The windows' index maps. -/
theorem idx : ∀ t : Fin cfg0.N,
    win0_0.index t = ![t.val, 0] ∧ win0_1.index t = ![t.val, 0] ∧ win0_2.index t = ![t.val + 64, 0]
    ∧ win0_3.index t = ![0, 0] ∧ win0_4.index t = ![t.val, 0] :=
  (by decide +kernel : ∀ t : Fin grid0.N, _)

include h0 in
/-- The stream's rows, as the call reads them. -/
theorem rows_x (i : S32768x2048.Idx) : V m c main_v0 i = x ((i 0).val / 16384) ((i 0).val % 16384) (i 1).val := by
  unfold V
  after_results
  idx_vars i
  pointwise
  exact h0 _

include h1 in
/-- The experts' rows, as the call reads them. -/
theorem rows_y (i : S65792x2048.Idx) : V m c main_arg1 i = y (i 0).val (i 1).val :=
  (congrFun (V_main_arg1 m c) i).trans (h1 i)

include h0 h1 in
/-- What a point leaves in its block of the result. -/
theorem block (t : Fin cfg0.N) (r : Fin 512) (k : Fin 2048) : outsAt0 m c t (ix2 r k)
    = added x y ((t.val * 512 + r.val) / 16384) ((t.val * 512 + r.val) % 16384) k.val := by
  have e0 : ∀ k : Fin 2048, iblk m c 0 t (ix2 r k) = x ((t.val * 512 + r.val) / 16384) ((t.val * 512 + r.val) % 16384) k.val := fun k => by
    blk_simp [iblk]
    refine (rows_x m c x h0 _).trans ?_
    blk_simp [idx t]
  have e1 : ∀ k : Fin 2048, X0_1 m c t (ix2 r k) = y (t.val * 512 + r.val) k.val := fun k => by
    unfold X0_1 Pipeline.Window.fill
    rw [dif_pos (moved0_1 t _)]
    blk_simp [iblk]
    refine (rows_y m c y h1 _).trans ?_
    blk_simp [idx t]
  have e2 : ∀ k : Fin 2048, X0_2 m c t (ix2 r k) = y (32768 + (t.val * 512 + r.val)) k.val := fun k => by
    unfold X0_2 Pipeline.Window.fill
    rw [dif_pos (moved0_2 t _)]
    blk_simp [iblk]
    refine (rows_y m c y h1 _).trans ?_
    blk_simp [idx t]
    rw [show (t.val + 64) * 512 + r.val = 32768 + (t.val * 512 + r.val) by omega]
  unfold outsAt0 out0_A_4
  frame_out
  unfold added
  rw [show (t.val * 512 + r.val) / 16384 * 16384 + (t.val * 512 + r.val) % 16384 = t.val * 512 + r.val by omega]
  rw [payload, e0, e1, e2]

include h0 h1 in
/-- What the call leaves. -/
theorem kernel_value : (dats m 0 c).arrAt 4 cfg0.N = fun i : S32768x2048.Idx =>
    added x y ((i 0).val / 16384) ((i 0).val % 16384) (i 1).val := by
  refine (dats m 0 c).arrAt_eq_of_covers 4 _ (by decide +kernel) fun t _ p => ?_
  blk_simp
  rw [after0_4]
  have hp : p = ix2 (p 0) (p 1) := by
    funext d; match d with
    | 0 => rfl
    | 1 => rfl
  refine (congrArg (outsAt0 m c t) hp).trans ((block m c x y h0 h1 t (p 0) (p 1)).trans ?_)
  blk_simp [idx t]
end

open Cert.CombineFirstRefIdeal Cert.CombineFirstRefIdeal.Read in
/-- What the reference computes. -/
theorem reference_value (a0 : S2x16384x2048.Idx → EReal) (a1 : S65792x2048.Idx → EReal)
    (x : ℕ → ℕ → ℕ → EReal) (y : ℕ → ℕ → EReal) (h0 : ∀ i, a0 i = x (i 0).val (i 1).val (i 2).val)
    (h1 : ∀ i, a1 i = y (i 0).val (i 1).val) (i : S32768x2048.Idx) :
    val_main_v4 (F := Ideal) a0 a1 i = added x y ((i 0).val / 16384) ((i 0).val % 16384) (i 1).val := by
  have e : ∀ i : S2x16384x2048.Idx, val_main_v3 (F := Ideal) a0 a1 i = added x y (i 0).val (i 1).val (i 2).val := fun i => by
    idx_vars i
    pointwise [val_main_v3, val_main_v2, val_main_cst, val_main_v1, val_main_v0]
    rw [Fin.sum_univ_two, ← add_assoc, h0, h1, h1]
    exact congrArg₂ (· + ·) (congrArg (_ + y · _) (show 0 * 32768 + i0.val * 16384 + i1.val = i0.val * 16384 + i1.val by omega))
      (congrArg (y · _) (show 1 * 32768 + i0.val * 16384 + i1.val = 32768 + (i0.val * 16384 + i1.val) by omega))
  unfold val_main_v4
  generalize val_main_v3 (F := Ideal) a0 a1 = z at e
  idx_vars i
  pointwise
  exact e _

/-- The reference runs to the end. -/
theorem reference_runs : Cert.quiescent_CombineFirstRefIdeal := fun m ρ _ =>
  (θ_run Cert.CombineFirstRefIdeal.defs _ _).mono
    (fun r h => ⟨fun c => (h c).2, Idealize.ShloMosaic.sem_eq_zero_of_no_sems (by decide) r.2⟩)
    (Cert.CombineFirstRefIdeal.Value.run (F := Ideal) m ρ)

/-- The call's result is the reference's, on any arguments. -/
theorem equal : Cert.algebraic_CombineFirstIdeal_CombineFirstRefIdeal := by
  intro m g m' g' _ hagree
  refine ⟨fun c => (Cert.CombineFirstIdeal.Gen.dats m 0 c).arrAt 4 Cert.CombineFirstIdeal.cfg0.N,
    Cert.CombineFirstIdeal.Value.run_blocks m g, ?_⟩
  refine (θ_run Cert.CombineFirstRefIdeal.defs _ _).mono (fun r h c => ⟨(h c).1.trans ?_, (h c).2⟩)
    (Cert.CombineFirstRefIdeal.Value.run (F := Ideal) m' g')
  obtain ⟨e0, e1⟩ := hagree c
  refine (Cert.CombineFirstRefIdeal.Read.val_main_v4_eq (F := Ideal) _ _).trans ?_
  refine Eq.trans ?_ (kernel_value m c _ _ (at3_eq (n := 2) (p := 16384) (q := 2048) _) (atE_eq (n := 65792) (p := 2048) _)).symm
  rw [← e0, ← e1]
  funext i
  exact reference_value _ _ _ _ (at3_eq (n := 2) (p := 16384) (q := 2048) _) (atE_eq (n := 65792) (p := 2048) _) i

end Cert.Block.CombineFirst

end
-- ==== Proof.Router.lean ====
/- The router's call: its logits are the reference's, beside columns of zeros. -/
module

public import proofs.«01_k».proof.Defs
public import proofs.«01_k».proof.Proof.Gen.RouterIdeal.Value
public import proofs.«01_k».proof.Proof.Gen.RouterRefIdeal.Read
public import proofs.«01_k».proof.Proof.Places
public import proofs.«01_k».proof.Proof.Reg03
public import Idealize.ShloMosaic.Lib.Pipeline.ValueKit
public import Idealize.ShloMosaic.Lib.Pipeline.ReadBack
public import Idealize.ShloMosaic.Lib.Bf16PairInverse

@[expose] public section

set_option maxRecDepth 16384

noncomputable section

open Idealize.ShloMosaic Idealize.ShloMosaic.TcCoe Idealize.SL.Sem
open Idealize.ShloMosaic.Pipeline (Dat)
open scoped BigOperators

namespace Cert.Block.Router

open Cert.RealLemmas Cert.KernelIdeal.Reg

/-- A normalized row, over rows of 2048. -/
abbrev norm (x g : ℕ → EReal) (k : ℕ) : EReal := rms 2048 (Ideal.ofBits .f32 0x45000000#32) x g k
/-- The router's weights: the groups' columns, the experts' columns, and zeros. -/
def cols (wg we : ℕ → ℕ → EReal) (k j : ℕ) : EReal := if j < 8 then wg k j else if j < 72 then we k (j - 8) else 0
/-- What both programs compute: the normalized rows times the router's weights. -/
def logits (x : ℕ → ℕ → ℕ → EReal) (g : ℕ → EReal) (wg we : ℕ → ℕ → EReal) (b l j : ℕ) : EReal :=
  ∑ k : Fin 2048, norm (x b l) g k.val * cols wg we k.val j

section
open Cert.RouterIdeal Cert.RouterIdeal.Gen
variable (m : (ℓ : Loc nD τ sig) → Buf (Elt Ideal) ℓ) (c : Dev nD)
variable (x : ℕ → ℕ → ℕ → EReal) (g : ℕ → EReal) (wg we : ℕ → ℕ → EReal)
  (h0 : ∀ i : S2x16384x2048.Idx, m ((c : Thread nD τ).loc main_arg0) i = x (i 0).val (i 1).val (i 2).val)
  (h1 : ∀ i : S2048.Idx, m ((c : Thread nD τ).loc main_arg1) i = g (i 0).val)
  (h2 : ∀ i : S2048x8.Idx, m ((c : Thread nD τ).loc main_arg2) i = wg (i 0).val (i 1).val)
  (h3 : ∀ i : S2048x64.Idx, m ((c : Thread nD τ).loc main_arg3) i = we (i 0).val (i 1).val)

/-- The windows' index maps. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

include h0 in
/-- The stream's rows, as the call reads them. -/
theorem rows_x (i : S32768x2048.Idx) : V m c main_v0 i = x ((i 0).val / 16384) ((i 0).val % 16384) (i 1).val := by
  unfold V
  after_results
  idx_vars i
  pointwise
  exact h0 _

include h1 in
/-- The gain, as the call reads it. -/
theorem gain (i : S1x2048.Idx) : V m c main_v4 i = g (i 1).val := by
  unfold V
  after_results
  idx_vars i
  pointwise
  exact h1 _

include h2 h3 in
/-- The weights, as the call reads them. -/
theorem weights (i : S2048x128.Idx) : V m c main_v3 i = cols wg we (i 0).val (i 1).val := by
  unfold V
  after_results
  idx_vars i
  pointwise
  unfold cols
  by_cases hg : i1.val < 8
  · exact (dif_pos hg).trans ((h2 _).trans (if_pos hg).symm)
  · refine (dif_neg hg).trans (Eq.trans ?_ (if_neg hg).symm)
    by_cases he : i1.val < 72
    · exact (dif_pos (by omega)).trans ((h3 _).trans (if_pos he).symm)
    · refine (dif_neg (by omega)).trans (Eq.trans ?_ (if_neg he).symm)
      refine (congrFun (StableHlo.unary_result _ _ _ _ _ _) _).trans ?_
      pointwise
      refine (congrFun (StableHlo.nullary_result _ _ _ _) _).trans ?_
      pointwise

/-- Row `r` of the stream's rows. -/
abbrev row (x : ℕ → ℕ → ℕ → EReal) (r : ℕ) : ℕ → EReal := x (r / 16384) (r % 16384)

include h0 in
theorem blk0 (t : Fin cfg0.N) (r : Fin 512) (k : Fin 2048) : iblk m c 0 t (ix2 r k) = row x (t.val * 512 + r.val) k.val := by
  blk_simp [iblk]
  refine (rows_x m c x h0 _).trans ?_
  blk_simp [idx t]
include h1 in
theorem blk1 (t : Fin cfg0.N) (k : Fin 2048) : iblk m c 1 t (ix2 0 k) = g k.val := by
  blk_simp [iblk]
  refine (gain m c g h1 _).trans ?_
  blk_simp [idx t]
include h2 h3 in
theorem blk2 (t : Fin cfg0.N) (k : Fin 2048) (j : Fin 128) : iblk m c 2 t (ix2 k j) = cols wg we k.val j.val := by
  blk_simp [iblk]
  refine (weights m c wg we h2 h3 _).trans ?_
  blk_simp [idx t]

include h0 h1 h2 h3 in
/-- What a point leaves in its block of the logits. -/
theorem block (t : Fin cfg0.N) (r : Fin 512) (j : Fin 128) : out0_3 (iblk m c 0 t) (iblk m c 1 t) (iblk m c 2 t) (ix2 r j)
    = logits x g wg we ((t.val * 512 + r.val) / 16384) ((t.val * 512 + r.val) % 16384) j.val := by
  unfold out0_3
  frame_out
  pointwise [k0_pay1, k0_pay2]
  simp only [blk0 m c x h0, blk1 m c g h1, blk2 m c wg we h2 h3]
  rfl

include h0 h1 h2 h3 in
/-- The logits that the call leaves. -/
theorem kernel_value : (dats m 0 c).arrAt 3 cfg0.N = fun i : S32768x128.Idx =>
    logits x g wg we ((i 0).val / 16384) ((i 0).val % 16384) (i 1).val := by
  refine (dats m 0 c).arrAt_eq_of_covers 3 _ (by decide +kernel) fun t _ p => ?_
  blk_simp
  rw [after0_3]
  have hp : p = ix2 (p 0) (p 1) := by
    funext d; match d with
    | 0 => rfl
    | 1 => rfl
  refine (congrArg (out0_3 _ _ _) hp).trans ((block m c x g wg we h0 h1 h2 h3 t (p 0) (p 1)).trans ?_)
  blk_simp [idx t]
end

open Cert.RouterRefIdeal Cert.RouterRefIdeal.Read in
/-- What the reference computes. -/
theorem reference_value (a0 : S2x16384x2048.Idx → EReal) (a1 : S2048.Idx → EReal) (a2 : S2048x8.Idx → EReal) (a3 : S2048x64.Idx → EReal)
    (x : ℕ → ℕ → ℕ → EReal) (g : ℕ → EReal) (wg we : ℕ → ℕ → EReal) (h0 : ∀ i, a0 i = x (i 0).val (i 1).val (i 2).val)
    (h1 : ∀ i, a1 i = g (i 0).val) (h2 : ∀ i, a2 i = wg (i 0).val (i 1).val) (h3 : ∀ i, a3 i = we (i 0).val (i 1).val)
    (i : S32768x128.Idx) :
    val_main_v17 (F := Ideal) a0 a1 a2 a3 i = logits x g wg we ((i 0).val / 16384) ((i 0).val % 16384) (i 1).val := by
  have e : ∀ i : S2x16384x2048.Idx, val_main_v12 (F := Ideal) a0 a1 i = norm (x (i 0).val (i 1).val) g (i 2).val := fun i => by
    idx_vars i
    pointwise [val_main_v12, val_main_v11, val_main_v10, val_main_v9, val_main_v8, val_main_v7, val_main_v6, val_main_v5, val_main_cst_1,
      val_main_v4, val_main_v3, val_main_cst_0, val_main_v2, val_main_v1, val_main_cst, val_main_v0]
    simp only [h0, h1]
    rfl
  have e' : ∀ i : S32768x2048.Idx, val_main_v13 (F := Ideal) a0 a1 i = norm (x ((i 0).val / 16384) ((i 0).val % 16384)) g (i 1).val := fun i => by
    unfold val_main_v13
    generalize val_main_v12 (F := Ideal) a0 a1 = z at e
    idx_vars i
    pointwise
    exact e _
  have eg : ∀ i : S32768x8.Idx, val_main_v14 (F := Ideal) a0 a1 a2 i
      = ∑ k : Fin 2048, norm (x ((i 0).val / 16384) ((i 0).val % 16384)) g k.val * wg k.val (i 1).val := fun i => by
    rw [val_main_v14_apply]
    exact Finset.sum_congr rfl fun k _ => congrArg₂ (· * ·) (e' _) (h2 _)
  have ee : ∀ i : S32768x64.Idx, val_main_v15 (F := Ideal) a0 a1 a3 i
      = ∑ k : Fin 2048, norm (x ((i 0).val / 16384) ((i 0).val % 16384)) g k.val * we k.val (i 1).val := fun i => by
    rw [val_main_v15_apply]
    exact Finset.sum_congr rfl fun k _ => congrArg₂ (· * ·) (e' _) (h3 _)
  unfold val_main_v17 val_main_v16 val_main_cst_2
  generalize val_main_v14 (F := Ideal) a0 a1 a2 = z at eg
  generalize val_main_v15 (F := Ideal) a0 a1 a3 = z' at ee
  idx_vars i
  pointwise
  unfold logits cols
  by_cases hg : i1.val < 8
  · rw [dif_pos hg, eg]
    simp only [if_pos hg]
    rfl
  · rw [dif_neg hg]
    simp only [if_neg hg]
    by_cases he : i1.val < 72
    · rw [dif_pos (by omega), ee]
      simp only [if_pos he]
      rfl
    · rw [dif_neg (by omega)]
      simp only [if_neg he, mul_zero, Finset.sum_const_zero]

/-- The reference runs to the end. -/
theorem reference_runs : Cert.quiescent_RouterRefIdeal := fun m ρ _ =>
  (θ_run Cert.RouterRefIdeal.defs _ _).mono
    (fun r h => ⟨fun c => (h c).2, Idealize.ShloMosaic.sem_eq_zero_of_no_sems (by decide) r.2⟩)
    (Cert.RouterRefIdeal.Value.run (F := Ideal) m ρ)

/-- The call's result is the reference's, on any arguments. -/
theorem equal : Cert.algebraic_RouterIdeal_RouterRefIdeal := by
  intro m g m' g' _ hagree
  refine ⟨fun c => (Cert.RouterIdeal.Gen.dats m 0 c).arrAt 3 Cert.RouterIdeal.cfg0.N,
    (θ_run Cert.RouterIdeal.defs _ _).mono (fun r h c => ⟨(h c).1, (h c).2.2⟩) (Cert.RouterIdeal.Value.run_blocks m g), ?_⟩
  refine (θ_run Cert.RouterRefIdeal.defs _ _).mono (fun r h c => ⟨(h c).1.trans ?_, (h c).2⟩)
    (Cert.RouterRefIdeal.Value.run (F := Ideal) m' g')
  obtain ⟨e0, e1, e2, e3⟩ := hagree c
  refine (Cert.RouterRefIdeal.Read.val_main_v17_eq (F := Ideal) _ _ _ _).trans ?_
  refine Eq.trans ?_ (kernel_value m c _ _ _ _ (at3_eq (n := 2) (p := 16384) (q := 2048) _) (at1E_eq (n := 2048) _)
    (atE_eq (n := 2048) (p := 8) _) (atE_eq (n := 2048) (p := 64) _)).symm
  rw [← e0, ← e1, ← e2, ← e3]
  funext i
  exact reference_value _ _ _ _ _ _ _ _ (at3_eq (n := 2) (p := 16384) (q := 2048) _) (at1E_eq (n := 2048) _)
    (atE_eq (n := 2048) (p := 8) _) (atE_eq (n := 2048) (p := 64) _) i

open Cert.RouterIdeal IdealRules in
/-- The rules by which the packed rows are read in exact arithmetic, at the shapes where they were used. -/
theorem preserves : Cert.preserves_Router_RouterIdeal :=
  ⟨bf16_pair.bufferStatement S32768x2x1024 S32768x1x1024, bf16_pair.bufferStatement S512x2x1024 S512x1x1024,
    bf16_pair.statement S512x2x1024 S512x1x1024, bf16_pack.statement S512x1024⟩

end Cert.Block.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.HyenaIn
public import proofs.«01_k».proof.Proof.Gen.HyenaIn.Skeleton
public import proofs.«01_k».proof.Proof.Gen.HyenaIn.Launch
public import proofs.«01_k».proof.Proof.Gen.HyenaIn.Points
public import proofs.«01_k».proof.Proof.Gen.HyenaIn.Frame
public import proofs.«01_k».proof.Proof.Gen.HyenaInIdeal
public import proofs.«01_k».proof.Proof.Gen.HyenaInIdeal.Skeleton
public import proofs.«01_k».proof.Proof.Gen.HyenaInIdeal.Launch
public import proofs.«01_k».proof.Proof.Gen.HyenaInIdeal.Points
public import proofs.«01_k».proof.Proof.Gen.HyenaInIdeal.Frame
public import proofs.«01_k».proof.Proof.Gen.HyenaInIdeal.Value
public import proofs.«01_k».proof.Proof.Gen.HyenaInRefIdeal
public import proofs.«01_k».proof.Proof.Gen.HyenaInRefIdeal.Run
public import proofs.«01_k».proof.Proof.Gen.HyenaInRefIdeal.Read
public import proofs.«01_k».proof.Proof.Gen.HyenaOut
public import proofs.«01_k».proof.Proof.Gen.HyenaOut.Skeleton
public import proofs.«01_k».proof.Proof.Gen.HyenaOut.Launch
public import proofs.«01_k».proof.Proof.Gen.HyenaOut.Points
public import proofs.«01_k».proof.Proof.Gen.HyenaOut.Frame
public import proofs.«01_k».proof.Proof.Gen.HyenaOutIdeal
public import proofs.«01_k».proof.Proof.Gen.HyenaOutIdeal.Skeleton
public import proofs.«01_k».proof.Proof.Gen.HyenaOutIdeal.Launch
public import proofs.«01_k».proof.Proof.Gen.HyenaOutIdeal.Points
public import proofs.«01_k».proof.Proof.Gen.HyenaOutIdeal.Frame
public import proofs.«01_k».proof.Proof.Gen.HyenaOutIdeal.Value
public import proofs.«01_k».proof.Proof.Gen.HyenaOutRefIdeal
public import proofs.«01_k».proof.Proof.Gen.HyenaOutRefIdeal.Run
public import proofs.«01_k».proof.Proof.Gen.HyenaOutRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.CombineIdeal.Value
public import proofs.«01_k».proof.Proof.Gen.CombineSample
public import proofs.«01_k».proof.Proof.Gen.CombineSample.Skeleton
public import proofs.«01_k».proof.Proof.Gen.CombineSample.Launch
public import proofs.«01_k».proof.Proof.Gen.CombineSample.Points
public import proofs.«01_k».proof.Proof.Gen.CombineSample.Frame
public import proofs.«01_k».proof.Proof.Gen.CombineSampleIdeal
public import proofs.«01_k».proof.Proof.Gen.CombineSampleIdeal.Skeleton
public import proofs.«01_k».proof.Proof.Gen.CombineSampleIdeal.Launch
public import proofs.«01_k».proof.Proof.Gen.CombineSampleIdeal.Points
public import proofs.«01_k».proof.Proof.Gen.CombineSampleIdeal.Frame
public import proofs.«01_k».proof.Proof.Gen.CombineSampleRefIdeal
public import proofs.«01_k».proof.Proof.Gen.CombineSampleRefIdeal.Run
public import proofs.«01_k».proof.Proof.Gen.CombineSampleRefIdeal.Read
public import proofs.«01_k».proof.Proof.Gen.CombineSampleIdeal.Value
public import proofs.«01_k».proof.Proof.Gen.HyenaConv
public import proofs.«01_k».proof.Proof.Gen.HyenaConv.Skeleton
public import proofs.«01_k».proof.Proof.Gen.HyenaConv.Launch
public import proofs.«01_k».proof.Proof.Gen.HyenaConv.Points
public import proofs.«01_k».proof.Proof.Gen.HyenaConv.Frame
public import proofs.«01_k».proof.Proof.Gen.HyenaConvIdeal
public import proofs.«01_k».proof.Proof.Gen.HyenaConvIdeal.Skeleton
public import proofs.«01_k».proof.Proof.Gen.HyenaConvIdeal.Launch
public import proofs.«01_k».proof.Proof.Gen.HyenaConvIdeal.Points
public import proofs.«01_k».proof.Proof.Gen.HyenaConvIdeal.Frame
public import proofs.«01_k».proof.Proof.Gen.HyenaConvIdeal.Value
public import proofs.«01_k».proof.Proof.Gen.HyenaConvRefIdeal
public import proofs.«01_k».proof.Proof.Gen.HyenaConvRefIdeal.Run
public import proofs.«01_k».proof.Proof.Gen.HyenaConvRefIdeal.Read
public import proofs.«01_k».proof.Proof.Gen.CombineFirst
public import proofs.«01_k».proof.Proof.Gen.CombineFirst.Skeleton
public import proofs.«01_k».proof.Proof.Gen.CombineFirst.Launch
public import proofs.«01_k».proof.Proof.Gen.CombineFirst.Points
public import proofs.«01_k».proof.Proof.Gen.CombineFirst.Frame
public import proofs.«01_k».proof.Proof.Gen.CombineFirstIdeal
public import proofs.«01_k».proof.Proof.Gen.CombineFirstIdeal.Skeleton
public import proofs.«01_k».proof.Proof.Gen.CombineFirstIdeal.Launch
public import proofs.«01_k».proof.Proof.Gen.CombineFirstIdeal.Points
public import proofs.«01_k».proof.Proof.Gen.CombineFirstIdeal.Frame
public import proofs.«01_k».proof.Proof.Gen.CombineFirstRefIdeal
public import proofs.«01_k».proof.Proof.Gen.CombineFirstRefIdeal.Run
public import proofs.«01_k».proof.Proof.Gen.CombineFirstRefIdeal.Read
public import proofs.«01_k».proof.Proof.Gen.CombineFirstIdeal.Value
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.RouterIdeal.Value
public import proofs.«01_k».proof.Proof.Whole
public import proofs.«01_k».proof.Proof.HyenaIn
public import proofs.«01_k».proof.Proof.HyenaOut
public import proofs.«01_k».proof.Proof.Combine
public import proofs.«01_k».proof.Proof.HyenaConv
public import proofs.«01_k».proof.Proof.CombineSample
public import proofs.«01_k».proof.Proof.CombineFirst
public import proofs.«01_k».proof.Proof.Router
public import Idealize.ShloMosaic.Adequacy
public import Idealize.ShloMosaic.Init

@[expose] public section

noncomputable section

namespace Cert.Proof

open Idealize.ShloMosaic Idealize.SL.Sem Cert.Kernel

/-- Every claim: the runs of the programs, and for each call the equality of its results with its reference's. -/
theorem claim : Cert.Claim := ⟨Cert.Kernel.Gen.facts, Cert.KernelIdeal.Gen.facts, Cert.ReferenceIdeal.Gen.facts,
  Cert.HyenaIn.Gen.facts, Cert.HyenaInIdeal.Gen.facts, Cert.HyenaInRefIdeal.Gen.facts,
  Cert.HyenaOut.Gen.facts, Cert.HyenaOutIdeal.Gen.facts, Cert.HyenaOutRefIdeal.Gen.facts,
  Cert.Combine.Gen.facts, Cert.CombineIdeal.Gen.facts, Cert.CombineRefIdeal.Gen.facts,
  Cert.HyenaConv.Gen.facts, Cert.HyenaConvIdeal.Gen.facts, Cert.HyenaConvRefIdeal.Gen.facts,
  Cert.CombineSample.Gen.facts, Cert.CombineSampleIdeal.Gen.facts, Cert.CombineSampleRefIdeal.Gen.facts,
  Cert.CombineFirst.Gen.facts, Cert.CombineFirstIdeal.Gen.facts, Cert.CombineFirstRefIdeal.Gen.facts,
  Cert.Router.Gen.facts, Cert.RouterIdeal.Gen.facts, Cert.RouterRefIdeal.Gen.facts,
  Cert.Pre_finite_args.facts,
  Cert.Block.Whole.runs_Kernel, Cert.Block.Whole.runs_KernelIdeal, Cert.Block.Whole.runs_KernelIdeal_pre,
  Cert.Block.Whole.runs_ReferenceIdeal, Cert.Block.Whole.runs_ReferenceIdeal_pre,
  fun m ρ _ => Cert.HyenaIn.Gen.frame m ρ, fun m ρ _ => Cert.HyenaInIdeal.Gen.frame m ρ, Cert.Block.HyenaIn.reference_runs,
  fun m ρ _ => Cert.HyenaOut.Gen.frame m ρ, fun m ρ _ => Cert.HyenaOutIdeal.Gen.frame m ρ, Cert.Block.HyenaOut.reference_runs,
  fun m ρ _ => Cert.Combine.Gen.frame m ρ, fun m ρ _ => Cert.CombineIdeal.Gen.frame m ρ, Cert.Block.Combine.reference_runs,
  fun m ρ _ => Cert.HyenaConv.Gen.frame m ρ, fun m ρ _ => Cert.HyenaConvIdeal.Gen.frame m ρ, Cert.Block.HyenaConv.reference_runs,
  fun m ρ _ => Cert.CombineSample.Gen.frame m ρ, fun m ρ _ => Cert.CombineSampleIdeal.Gen.frame m ρ, Cert.Block.CombineSample.reference_runs,
  fun m ρ _ => Cert.CombineFirst.Gen.frame m ρ, fun m ρ _ => Cert.CombineFirstIdeal.Gen.frame m ρ, Cert.Block.CombineFirst.reference_runs,
  fun m ρ _ => Cert.Router.Gen.frame m ρ, fun m ρ _ => Cert.RouterIdeal.Gen.frame m ρ, Cert.Block.Router.reference_runs,
  trivial, Cert.Block.Whole.equal,
  trivial, Cert.Block.HyenaIn.equal,
  trivial, Cert.Block.HyenaOut.equal,
  trivial, Cert.Block.Combine.equal,
  trivial, Cert.Block.HyenaConv.equal,
  trivial, Cert.Block.CombineSample.equal,
  trivial, Cert.Block.CombineFirst.equal,
  Cert.Block.Router.preserves, Cert.Block.Router.equal⟩

end Cert.Proof

end
